-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv" .f32 0x3CA3D70A#32 ((1 / 50 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S16384x50 : Shape := ⟨2, ![16384, 50]⟩
abbrev S1000000x16 : Shape := ⟨2, ![1000000, 16]⟩
abbrev S24x64 : Shape := ⟨2, ![24, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384x50 : S_.BroadcastsInDim S16384x50 (![] : Fin 0 → Fin S16384x50.rank)

variable [Facts]

def fn {F : FTy → Type} [FloatOps F] (main_arg0 : FVec F S16384 .f32) (main_arg1 : FVec F S16384 .f32) (main_arg2 : FVec F S16384 .f32) (main_arg3 : FVec F S16384 .f32) (main_arg4 : FVec F S16384 .f32) (main_arg5 : FVec F S16384 .f32) (main_arg6 : FVec F S16384 .f32) (main_arg7 : FVec F S16384 .f32) (main_arg8 : IVec S16384x50 32) (main_arg9 : FVec F S1000000x16 .f32) (main_arg10 : FVec F S24x64 .f32) (main_arg11 : FVec F S64 .f32) (main_arg12 : FVec F S64x32 .f32) (main_arg13 : FVec F S32 .f32) (main_arg14 : FVec F S32x1 .f32) (main_arg15 : FVec F S1 .f32) : IVec S16384x50 1 :=
  let main_c : IVec S_ 32 := constantI S_ 32 0#32
  let main_v0 : IVec S16384x50 32 := broadcastInDim S16384x50 ![] bcast_S_S16384x50 main_c
  let main_v1 : IVec S16384x50 1 := cmpi .sge main_arg8 main_v0
  let main_c_0 : IVec S_ 32 := constantI S_ 32 1000000#32
  let main_v2 : IVec S16384x50 32 := broadcastInDim S16384x50 ![] bcast_S_S16384x50 main_c_0
  let main_v3 : IVec S16384x50 1 := cmpi .slt main_arg8 main_v2
  let main_v4 : IVec S16384x50 1 := andi main_v1 main_v3
  main_v4
-- ==== Kernel.lean ====
abbrev S16384 : Shape := ⟨1, ![16384]⟩
abbrev S16384x50 : Shape := ⟨2, ![16384, 50]⟩
abbrev S1000000x16 : Shape := ⟨2, ![1000000, 16]⟩
abbrev S24x64 : Shape := ⟨2, ![24, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S32x25600 : Shape := ⟨2, ![32, 25600]⟩
abbrev S16384x16 : Shape := ⟨2, ![16384, 16]⟩
abbrev S25600 : Shape := ⟨1, ![25600]⟩
abbrev S800x16 : Shape := ⟨2, ![800, 16]⟩
abbrev S512x16 : Shape := ⟨2, ![512, 16]⟩
abbrev S_ : Shape := ⟨0, ![]⟩
abbrev S1x25600 : Shape := ⟨2, ![1, 25600]⟩
abbrev S800 : Shape := ⟨1, ![800]⟩
abbrev S16 : Shape := ⟨1, ![16]⟩
abbrev S1x16 : Shape := ⟨2, ![1, 16]⟩
abbrev S1x64 : Shape := ⟨2, ![1, 64]⟩
abbrev S1x32 : Shape := ⟨2, ![1, 32]⟩
abbrev S1x1 : Shape := ⟨2, ![1, 1]⟩
abbrev S4096 : Shape := ⟨1, ![4096]⟩
abbrev S4096x16 : Shape := ⟨2, ![4096, 16]⟩
abbrev S16x64 : Shape := ⟨2, ![16, 64]⟩
abbrev S4096x64 : Shape := ⟨2, ![4096, 64]⟩
abbrev S4096x1 : Shape := ⟨2, ![4096, 1]⟩
abbrev S4096x32 : Shape := ⟨2, ![4096, 32]⟩
abbrev S16384x1 : Shape := ⟨2, ![16384, 1]⟩

abbrev nBuf : Table → Nat
  | .hbm => 23
  | .local .tc .vmem => 26
  | .local .scVector .vmem => 6
  | _ => 0

abbrev bufTy : (tb : Table) → Fin (nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384, .f32⟩
  | .hbm, ⟨4, _⟩ => ⟨S16384, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S16384x50, .i32⟩
  | .hbm, ⟨9, _⟩ => ⟨S1000000x16, .f32⟩
  | .hbm, ⟨10, _⟩ => ⟨S24x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S32x25600, .i32⟩
  | .hbm, ⟨17, _⟩ => ⟨S16384x16, .f32⟩
  | .hbm, ⟨18, _⟩ => ⟨S1x64, .f32⟩
  | .hbm, ⟨19, _⟩ => ⟨S1x32, .f32⟩
  | .hbm, ⟨20, _⟩ => ⟨S1x1, .f32⟩
  | .hbm, ⟨21, _⟩ => ⟨S16384, .f32⟩
  | .hbm, ⟨22, _⟩ => ⟨S16384x1, .f32⟩
  | .local .tc .vmem, ⟨0, _⟩ => ⟨S4096, .f32⟩
  | .local .tc .vmem, ⟨1, _⟩ => ⟨S4096, .f32⟩
  | .local .tc .vmem, ⟨2, _⟩ => ⟨S4096, .f32⟩
  | .local .tc .vmem, ⟨3, _⟩ => ⟨S4096, .f32⟩
  | .local .tc .vmem, ⟨4, _⟩ => ⟨S4096, .f32⟩
  | .local .tc .vmem, ⟨5, _⟩ => ⟨S4096, .f32⟩
  | .local .tc .vmem, ⟨6, _⟩ => ⟨S4096, .f32⟩
  | .local .tc .vmem, ⟨7, _⟩ => ⟨S4096, .f32⟩
  | .local .tc .vmem, ⟨8, _⟩ => ⟨S4096, .f32⟩
  | .local .tc .vmem, ⟨9, _⟩ => ⟨S4096, .f32⟩
  | .local .tc .vmem, ⟨10, _⟩ => ⟨S4096, .f32⟩
  | .local .tc .vmem, ⟨11, _⟩ => ⟨S4096, .f32⟩
  | .local .tc .vmem, ⟨12, _⟩ => ⟨S4096, .f32⟩
  | .local .tc .vmem, ⟨13, _⟩ => ⟨S4096, .f32⟩
  | .local .tc .vmem, ⟨14, _⟩ => ⟨S4096, .f32⟩
  | .local .tc .vmem, ⟨15, _⟩ => ⟨S4096, .f32⟩
  | .local .tc .vmem, ⟨16, _⟩ => ⟨S4096x16, .f32⟩
  | .local .tc .vmem, ⟨17, _⟩ => ⟨S4096x16, .f32⟩
  | .local .tc .vmem, ⟨18, _⟩ => ⟨S24x64, .f32⟩
  | .local .tc .vmem, ⟨19, _⟩ => ⟨S1x64, .f32⟩
  | .local .tc .vmem, ⟨20, _⟩ => ⟨S64x32, .f32⟩
  | .local .tc .vmem, ⟨21, _⟩ => ⟨S1x32, .f32⟩
  | .local .tc .vmem, ⟨22, _⟩ => ⟨S32x1, .f32⟩
  | .local .tc .vmem, ⟨23, _⟩ => ⟨S1x1, .f32⟩
  | .local .tc .vmem, ⟨24, _⟩ => ⟨S4096, .f32⟩
  | .local .tc .vmem, ⟨25, _⟩ => ⟨S4096, .f32⟩
  | .local .scVector .vmem, ⟨0, _⟩ => ⟨S25600, .i32⟩
  | .local .scVector .vmem, ⟨1, _⟩ => ⟨S800x16, .f32⟩
  | .local .scVector .vmem, ⟨2, _⟩ => ⟨S800x16, .f32⟩
  | .local .scVector .vmem, ⟨3, _⟩ => ⟨S800x16, .f32⟩
  | .local .scVector .vmem, ⟨4, _⟩ => ⟨S800x16, .f32⟩
  | .local .scVector .vmem, ⟨5, _⟩ => ⟨S512x16, .f32⟩
  | _, _ => ⟨S16384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_arg9_scv : Ref sig .scVector := ⟨.hbm, 9, rfl⟩
abbrev main_v0_scv : Ref sig .scVector := ⟨.hbm, 16, rfl⟩
abbrev main_v1_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg15_1 : Ref sig .tc := ⟨.vmem, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc1_sem15_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r0 : BitVec 32 := 0#32
  ![v1.toNat, 0]
@[reducible] def k0_t1_loop : Scf.Loop 32 :=
  let c0_i32_9 : BitVec 32 := 0#32
  let c8_i32 : BitVec 32 := 8#32
  let v10 : BitVec 32 := Scalar.addi c0_i32_9 c8_i32
  let c1_i32 : BitVec 32 := 1#32
  ⟨c0_i32_9, v10, c1_i32⟩
def k0_off2 (k0_t1 : Fin k0_t1_loop.trips) (c0_i32_11 : BitVec 32) : Fin 1 → Nat :=
  let c0_i32_9 : BitVec 32 := 0#32
  let c1_i32 : BitVec 32 := 1#32
  let arg15 : BitVec 32 := Scf.iv c0_i32_9 c1_i32 k0_t1
  let c4_i32 : BitVec 32 := 4#32
  let v13 : BitVec 32 := Scalar.muli arg15 c4_i32
  let v14 : BitVec 32 := Scalar.addi v13 c0_i32_11
  let c800_i32_12 : BitVec 32 := 800#32
  let v15 : BitVec 32 := Scalar.muli v14 c800_i32_12
  ![v15.toNat]
@[reducible] def k0_t2_loop : Scf.Loop 32 :=
  let c0_i32_16 : BitVec 32 := 0#32
  let c16_i32_17 : BitVec 32 := 16#32
  let v19 : BitVec 32 := Scalar.addi c0_i32_16 c16_i32_17
  let c1_i32_18 : BitVec 32 := 1#32
  ⟨c0_i32_16, v19, c1_i32_18⟩
def k0_off3 (k0_t2 : Fin k0_t2_loop.trips) (c0_i32_67 : BitVec 32) : Fin 2 → Nat :=
  let c0_i32_16 : BitVec 32 := 0#32
  let c1_i32_18 : BitVec 32 := 1#32
  let arg17 : BitVec 32 := Scf.iv c0_i32_16 c1_i32_18 k0_t2
  let c50_i32 : BitVec 32 := 50#32
  let v61 : BitVec 32 := Scalar.muli arg17 c50_i32
  let v62 : BitVec 32 := Scalar.addi v61 c0_i32_67
  let v63 : Index := Scalar.indexCast v62
  let c0 : Index := 0#32
  ![v63.toNat, 0]
def k0_off4 (k0_t1 : Fin k0_t1_loop.trips) (k0_t2 : Fin k0_t2_loop.trips) : Fin 2 → Nat :=
  let c0_i32_9 : BitVec 32 := 0#32
  let c1_i32 : BitVec 32 := 1#32
  let arg15 : BitVec 32 := Scf.iv c0_i32_9 c1_i32 k0_t1
  let c4_i32 : BitVec 32 := 4#32
  let v13 : BitVec 32 := Scalar.muli arg15 c4_i32
  let c0_i32_11 : BitVec 32 := 0#32
  let v14 : BitVec 32 := Scalar.addi v13 c0_i32_11
  let c16_i32 : BitVec 32 := 16#32
  let v18 : BitVec 32 := Scalar.muli v14 c16_i32
  let c0_i32_16 : BitVec 32 := 0#32
  let c1_i32_18 : BitVec 32 := 1#32
  let arg17 : BitVec 32 := Scf.iv c0_i32_16 c1_i32_18 k0_t2
  let v366 : BitVec 32 := Scalar.addi v18 arg17
  let v367 : Index := Scalar.indexCast v366
  let c0_173 : Index := 0#32
  ![v367.toNat, 0]
def k0_cond1 (k0_t1 : Fin k0_t1_loop.trips) : BitVec 1 :=
  let c0_i32_9 : BitVec 32 := 0#32
  let c1_i32 : BitVec 32 := 1#32
  let arg15 : BitVec 32 := Scf.iv c0_i32_9 c1_i32 k0_t1
  let c7_i32 : BitVec 32 := 7#32
  let v21 : BitVec 1 := Scalar.cmpi .slt arg15 c7_i32
  let v22 : BitVec 32 := Scalar.extui v21
  let c0_i32_20 : BitVec 32 := 0#32
  let v23 : BitVec 1 := Scalar.cmpi .ne v22 c0_i32_20
  v23

def k0_off5 (k0_t1 : Fin k0_t1_loop.trips) : Fin 1 → Nat :=
  let c0_i32_9 : BitVec 32 := 0#32
  let c1_i32 : BitVec 32 := 1#32
  let arg15 : BitVec 32 := Scf.iv c0_i32_9 c1_i32 k0_t1
  let c4_i32 : BitVec 32 := 4#32
  let v13 : BitVec 32 := Scalar.muli arg15 c4_i32
  let c0_i32_11 : BitVec 32 := 0#32
  let v14 : BitVec 32 := Scalar.addi v13 c0_i32_11
  let c4_i32_63 : BitVec 32 := 4#32
  let v57 : BitVec 32 := Scalar.addi v14 c4_i32_63
  let c800_i32_64 : BitVec 32 := 800#32
  let v58 : BitVec 32 := Scalar.muli v57 c800_i32_64
  ![v58.toNat]
@[reducible] def k0_t3_loop : Scf.Loop 32 :=
  let c0_i32_29 : BitVec 32 := 0#32
  let c16_i32_30 : BitVec 32 := 16#32
  let v30 : BitVec 32 := Scalar.addi c0_i32_29 c16_i32_30
  let c1_i32_31 : BitVec 32 := 1#32
  ⟨c0_i32_29, v30, c1_i32_31⟩
def k0_off6 (k0_t3 : Fin k0_t3_loop.trips) (c0_i32_67 : BitVec 32) : Fin 2 → Nat :=
  let c0_i32_29 : BitVec 32 := 0#32
  let c1_i32_31 : BitVec 32 := 1#32
  let arg17 : BitVec 32 := Scf.iv c0_i32_29 c1_i32_31 k0_t3
  let c50_i32 : BitVec 32 := 50#32
  let v61 : BitVec 32 := Scalar.muli arg17 c50_i32
  let v62 : BitVec 32 := Scalar.addi v61 c0_i32_67
  let v63 : Index := Scalar.indexCast v62
  let c0 : Index := 0#32
  ![v63.toNat, 0]
def k0_off7 (k0_t1 : Fin k0_t1_loop.trips) (k0_t3 : Fin k0_t3_loop.trips) : Fin 2 → Nat :=
  let c0_i32_9 : BitVec 32 := 0#32
  let c1_i32 : BitVec 32 := 1#32
  let arg15 : BitVec 32 := Scf.iv c0_i32_9 c1_i32 k0_t1
  let c4_i32_21 : BitVec 32 := 4#32
  let v24 : BitVec 32 := Scalar.muli arg15 c4_i32_21
  let c1_i32_22 : BitVec 32 := 1#32
  let v25 : BitVec 32 := Scalar.addi v24 c1_i32_22
  let c16_i32_26 : BitVec 32 := 16#32
  let v29 : BitVec 32 := Scalar.muli v25 c16_i32_26
  let c0_i32_29 : BitVec 32 := 0#32
  let c1_i32_31 : BitVec 32 := 1#32
  let arg17 : BitVec 32 := Scf.iv c0_i32_29 c1_i32_31 k0_t3
  let v366 : BitVec 32 := Scalar.addi v29 arg17
  let v367 : Index := Scalar.indexCast v366
  let c0_173 : Index := 0#32
  ![v367.toNat, 0]
def k0_cond2 (k0_t1 : Fin k0_t1_loop.trips) : BitVec 1 :=
  let c0_i32_9 : BitVec 32 := 0#32
  let c1_i32 : BitVec 32 := 1#32
  let arg15 : BitVec 32 := Scf.iv c0_i32_9 c1_i32 k0_t1
  let c7_i32_33 : BitVec 32 := 7#32
  let v32 : BitVec 1 := Scalar.cmpi .slt arg15 c7_i32_33
  let v33 : BitVec 32 := Scalar.extui v32
  let c0_i32_34 : BitVec 32 := 0#32
  let v34 : BitVec 1 := Scalar.cmpi .ne v33 c0_i32_34
  v34

def k0_off8 (k0_t1 : Fin k0_t1_loop.trips) : Fin 1 → Nat :=
  let c0_i32_9 : BitVec 32 := 0#32
  let c1_i32 : BitVec 32 := 1#32
  let arg15 : BitVec 32 := Scf.iv c0_i32_9 c1_i32 k0_t1
  let c4_i32_21 : BitVec 32 := 4#32
  let v24 : BitVec 32 := Scalar.muli arg15 c4_i32_21
  let c1_i32_22 : BitVec 32 := 1#32
  let v25 : BitVec 32 := Scalar.addi v24 c1_i32_22
  let c4_i32_63 : BitVec 32 := 4#32
  let v57 : BitVec 32 := Scalar.addi v25 c4_i32_63
  let c800_i32_64 : BitVec 32 := 800#32
  let v58 : BitVec 32 := Scalar.muli v57 c800_i32_64
  ![v58.toNat]
@[reducible] def k0_t4_loop : Scf.Loop 32 :=
  let c0_i32_43 : BitVec 32 := 0#32
  let c16_i32_44 : BitVec 32 := 16#32
  let v41 : BitVec 32 := Scalar.addi c0_i32_43 c16_i32_44
  let c1_i32_45 : BitVec 32 := 1#32
  ⟨c0_i32_43, v41, c1_i32_45⟩
def k0_off9 (k0_t4 : Fin k0_t4_loop.trips) (c0_i32_67 : BitVec 32) : Fin 2 → Nat :=
  let c0_i32_43 : BitVec 32 := 0#32
  let c1_i32_45 : BitVec 32 := 1#32
  let arg17 : BitVec 32 := Scf.iv c0_i32_43 c1_i32_45 k0_t4
  let c50_i32 : BitVec 32 := 50#32
  let v61 : BitVec 32 := Scalar.muli arg17 c50_i32
  let v62 : BitVec 32 := Scalar.addi v61 c0_i32_67
  let v63 : Index := Scalar.indexCast v62
  let c0 : Index := 0#32
  ![v63.toNat, 0]
def k0_off10 (k0_t1 : Fin k0_t1_loop.trips) (k0_t4 : Fin k0_t4_loop.trips) : Fin 2 → Nat :=
  let c0_i32_9 : BitVec 32 := 0#32
  let c1_i32 : BitVec 32 := 1#32
  let arg15 : BitVec 32 := Scf.iv c0_i32_9 c1_i32 k0_t1
  let c4_i32_35 : BitVec 32 := 4#32
  let v35 : BitVec 32 := Scalar.muli arg15 c4_i32_35
  let c2_i32_36 : BitVec 32 := 2#32
  let v36 : BitVec 32 := Scalar.addi v35 c2_i32_36
  let c16_i32_40 : BitVec 32 := 16#32
  let v40 : BitVec 32 := Scalar.muli v36 c16_i32_40
  let c0_i32_43 : BitVec 32 := 0#32
  let c1_i32_45 : BitVec 32 := 1#32
  let arg17 : BitVec 32 := Scf.iv c0_i32_43 c1_i32_45 k0_t4
  let v366 : BitVec 32 := Scalar.addi v40 arg17
  let v367 : Index := Scalar.indexCast v366
  let c0_173 : Index := 0#32
  ![v367.toNat, 0]
def k0_cond3 (k0_t1 : Fin k0_t1_loop.trips) : BitVec 1 :=
  let c0_i32_9 : BitVec 32 := 0#32
  let c1_i32 : BitVec 32 := 1#32
  let arg15 : BitVec 32 := Scf.iv c0_i32_9 c1_i32 k0_t1
  let c7_i32_47 : BitVec 32 := 7#32
  let v43 : BitVec 1 := Scalar.cmpi .slt arg15 c7_i32_47
  let v44 : BitVec 32 := Scalar.extui v43
  let c0_i32_48 : BitVec 32 := 0#32
  let v45 : BitVec 1 := Scalar.cmpi .ne v44 c0_i32_48
  v45

def k0_off11 (k0_t1 : Fin k0_t1_loop.trips) : Fin 1 → Nat :=
  let c0_i32_9 : BitVec 32 := 0#32
  let c1_i32 : BitVec 32 := 1#32
  let arg15 : BitVec 32 := Scf.iv c0_i32_9 c1_i32 k0_t1
  let c4_i32_35 : BitVec 32 := 4#32
  let v35 : BitVec 32 := Scalar.muli arg15 c4_i32_35
  let c2_i32_36 : BitVec 32 := 2#32
  let v36 : BitVec 32 := Scalar.addi v35 c2_i32_36
  let c4_i32_63 : BitVec 32 := 4#32
  let v57 : BitVec 32 := Scalar.addi v36 c4_i32_63
  let c800_i32_64 : BitVec 32 := 800#32
  let v58 : BitVec 32 := Scalar.muli v57 c800_i32_64
  ![v58.toNat]
@[reducible] def k0_t5_loop : Scf.Loop 32 :=
  let c0_i32_56 : BitVec 32 := 0#32
  let c16_i32_57 : BitVec 32 := 16#32
  let v52 : BitVec 32 := Scalar.addi c0_i32_56 c16_i32_57
  let c1_i32_58 : BitVec 32 := 1#32
  ⟨c0_i32_56, v52, c1_i32_58⟩
def k0_off12 (k0_t5 : Fin k0_t5_loop.trips) (c0_i32_67 : BitVec 32) : Fin 2 → Nat :=
  let c0_i32_56 : BitVec 32 := 0#32
  let c1_i32_58 : BitVec 32 := 1#32
  let arg17 : BitVec 32 := Scf.iv c0_i32_56 c1_i32_58 k0_t5
  let c50_i32 : BitVec 32 := 50#32
  let v61 : BitVec 32 := Scalar.muli arg17 c50_i32
  let v62 : BitVec 32 := Scalar.addi v61 c0_i32_67
  let v63 : Index := Scalar.indexCast v62
  let c0 : Index := 0#32
  ![v63.toNat, 0]
def k0_off13 (k0_t1 : Fin k0_t1_loop.trips) (k0_t5 : Fin k0_t5_loop.trips) : Fin 2 → Nat :=
  let c0_i32_9 : BitVec 32 := 0#32
  let c1_i32 : BitVec 32 := 1#32
  let arg15 : BitVec 32 := Scf.iv c0_i32_9 c1_i32 k0_t1
  let c4_i32_49 : BitVec 32 := 4#32
  let v46 : BitVec 32 := Scalar.muli arg15 c4_i32_49
  let c3_i32 : BitVec 32 := 3#32
  let v47 : BitVec 32 := Scalar.addi v46 c3_i32
  let c16_i32_53 : BitVec 32 := 16#32
  let v51 : BitVec 32 := Scalar.muli v47 c16_i32_53
  let c0_i32_56 : BitVec 32 := 0#32
  let c1_i32_58 : BitVec 32 := 1#32
  let arg17 : BitVec 32 := Scf.iv c0_i32_56 c1_i32_58 k0_t5
  let v366 : BitVec 32 := Scalar.addi v51 arg17
  let v367 : Index := Scalar.indexCast v366
  let c0_173 : Index := 0#32
  ![v367.toNat, 0]
def k0_cond4 (k0_t1 : Fin k0_t1_loop.trips) : BitVec 1 :=
  let c0_i32_9 : BitVec 32 := 0#32
  let c1_i32 : BitVec 32 := 1#32
  let arg15 : BitVec 32 := Scf.iv c0_i32_9 c1_i32 k0_t1
  let c7_i32_60 : BitVec 32 := 7#32
  let v54 : BitVec 1 := Scalar.cmpi .slt arg15 c7_i32_60
  let v55 : BitVec 32 := Scalar.extui v54
  let c0_i32_61 : BitVec 32 := 0#32
  let v56 : BitVec 1 := Scalar.cmpi .ne v55 c0_i32_61
  v56

def k0_off14 (k0_t1 : Fin k0_t1_loop.trips) : Fin 1 → Nat :=
  let c0_i32_9 : BitVec 32 := 0#32
  let c1_i32 : BitVec 32 := 1#32
  let arg15 : BitVec 32 := Scf.iv c0_i32_9 c1_i32 k0_t1
  let c4_i32_49 : BitVec 32 := 4#32
  let v46 : BitVec 32 := Scalar.muli arg15 c4_i32_49
  let c3_i32 : BitVec 32 := 3#32
  let v47 : BitVec 32 := Scalar.addi v46 c3_i32
  let c4_i32_63 : BitVec 32 := 4#32
  let v57 : BitVec 32 := Scalar.addi v47 c4_i32_63
  let c800_i32_64 : BitVec 32 := 800#32
  let v58 : BitVec 32 := Scalar.muli v57 c800_i32_64
  ![v58.toNat]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v12 : BitVec 32 := Scalar.muli v1 c512_i32
  let c0_i32_11_r1 : BitVec 32 := 0#32
  ![v12.toNat, 0]
abbrev grid1 : Pipeline.Grid := ⟨1, ![4], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 1 → Nat :=
  let arg0 : BitVec 32 := BitVec.ofNat 32 (i 0).val
  let c0_i32 : BitVec 32 := 0#32
  ![arg0.toNat]

def cc1_transform_6 (i : grid1.Coords) : Fin 1 → Nat :=
  let arg0 : BitVec 32 := BitVec.ofNat 32 (i 0).val
  let c0_i32 : BitVec 32 := 0#32
  ![arg0.toNat]

def cc1_transform_7 (i : grid1.Coords) : Fin 1 → Nat :=
  let arg0 : BitVec 32 := BitVec.ofNat 32 (i 0).val
  let c0_i32 : BitVec 32 := 0#32
  ![arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4096x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S24x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S32x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S4096 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv" => some ((1 / 50 : ℝ) : EReal)
  | _ => none
-- ==== ReferenceIdeal.lean ====
abbrev S16384 : Shape := ⟨1, ![16384]⟩
abbrev S16384x50 : Shape := ⟨2, ![16384, 50]⟩
abbrev S1000000x16 : Shape := ⟨2, ![1000000, 16]⟩
abbrev S24x64 : Shape := ⟨2, ![24, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S16384x50x1 : Shape := ⟨3, ![16384, 50, 1]⟩
abbrev S1x1x1 : Shape := ⟨3, ![1, 1, 1]⟩
abbrev S16384x50x16 : Shape := ⟨3, ![16384, 50, 16]⟩
abbrev S16384x16 : Shape := ⟨2, ![16384, 16]⟩
abbrev S16384x1 : Shape := ⟨2, ![16384, 1]⟩
abbrev S16384x8 : Shape := ⟨2, ![16384, 8]⟩
abbrev S16384x24 : Shape := ⟨2, ![16384, 24]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384, .f32⟩
  | .hbm, ⟨4, _⟩ => ⟨S16384, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S16384x50, .i32⟩
  | .hbm, ⟨9, _⟩ => ⟨S1000000x16, .f32⟩
  | .hbm, ⟨10, _⟩ => ⟨S24x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S_, .i32⟩
  | .hbm, ⟨17, _⟩ => ⟨S16384x50, .i32⟩
  | .hbm, ⟨18, _⟩ => ⟨S16384x50, .i1⟩
  | .hbm, ⟨19, _⟩ => ⟨S_, .i32⟩
  | .hbm, ⟨20, _⟩ => ⟨S16384x50, .i32⟩
  | .hbm, ⟨21, _⟩ => ⟨S16384x50, .i32⟩
  | .hbm, ⟨22, _⟩ => ⟨S16384x50, .i32⟩
  | .hbm, ⟨23, _⟩ => ⟨S16384x50x1, .i32⟩
  | .hbm, ⟨24, _⟩ => ⟨S1, .i32⟩
  | .hbm, ⟨25, _⟩ => ⟨S_, .i32⟩
  | .hbm, ⟨26, _⟩ => ⟨S16384x50x1, .i32⟩
  | .hbm, ⟨27, _⟩ => ⟨S16384x50x1, .i1⟩
  | .hbm, ⟨28, _⟩ => ⟨S1x1x1, .i32⟩
  | .hbm, ⟨29, _⟩ => ⟨S16384x50x1, .i32⟩
  | .hbm, ⟨30, _⟩ => ⟨S16384x50x1, .i1⟩
  | .hbm, ⟨31, _⟩ => ⟨S16384x50x1, .i1⟩
  | .hbm, ⟨32, _⟩ => ⟨S_, .i1⟩
  | .hbm, ⟨33, _⟩ => ⟨S16384x50, .i1⟩
  | .hbm, ⟨34, _⟩ => ⟨S16384x50x16, .f32⟩
  | .hbm, ⟨35, _⟩ => ⟨S16384x50x16, .i1⟩
  | .hbm, ⟨36, _⟩ => ⟨S_, .f32⟩
  | .hbm, ⟨37, _⟩ => ⟨S16384x50x16, .f32⟩
  | .hbm, ⟨38, _⟩ => ⟨S16384x50x16, .f32⟩
  | .hbm, ⟨39, _⟩ => ⟨S_, .f32⟩
  | .hbm, ⟨40, _⟩ => ⟨S16384x16, .f32⟩
  | .hbm, ⟨41, _⟩ => ⟨S_, .f32⟩
  | .hbm, ⟨42, _⟩ => ⟨S16384x16, .f32⟩
  | .hbm, ⟨43, _⟩ => ⟨S16384x16, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x8, .f32⟩
  | .hbm, ⟨53, _⟩ => ⟨S16384x24, .f32⟩
  | .hbm, ⟨54, _⟩ => ⟨S16384x64, .f32⟩
  | .hbm, ⟨55, _⟩ => ⟨S1x64, .f32⟩
  | .hbm, ⟨56, _⟩ => ⟨S16384x64, .f32⟩
  | .hbm, ⟨57, _⟩ => ⟨S16384x64, .f32⟩
  | .hbm, ⟨58, _⟩ => ⟨S_, .f32⟩
  | .hbm, ⟨59, _⟩ => ⟨S16384x64, .f32⟩
  | .hbm, ⟨60, _⟩ => ⟨S16384x64, .i1⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S16384x64, .f32⟩
  | .hbm, ⟨65, _⟩ => ⟨S16384x32, .f32⟩
  | .hbm, ⟨66, _⟩ => ⟨S1x32, .f32⟩
  | .hbm, ⟨67, _⟩ => ⟨S16384x32, .f32⟩
  | .hbm, ⟨68, _⟩ => ⟨S16384x32, .f32⟩
  | .hbm, ⟨69, _⟩ => ⟨S16384x1, .f32⟩
  | .hbm, ⟨70, _⟩ => ⟨S1x1, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_cst : Ref sig .tc := ⟨.hbm, 39, rfl⟩
abbrev main_v1 : Ref sig .tc := ⟨.hbm, 40, rfl⟩
abbrev main_cst_0 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_v18 : Ref sig .tc := ⟨.hbm, 59, rfl⟩
abbrev main_v19 : Ref sig .tc := ⟨.hbm, 60, rfl⟩
abbrev main_cst_2 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_3 : Ref sig .tc := ⟨.hbm, 75, rfl⟩
abbrev main_v33 : Ref sig .tc := ⟨.hbm, 76, rfl⟩
abbrev main_v34 : Ref sig .tc := ⟨.hbm, 77, rfl⟩
abbrev main_cst_4 : Ref sig .tc := ⟨.hbm, 78, rfl⟩
abbrev main_v35 : Ref sig .tc := ⟨.hbm, 79, rfl⟩
abbrev main_v36 : Ref sig .tc := ⟨.hbm, 80, rfl⟩

abbrev nD : Nat := 1
abbrev τ : Topo := Topo.v7x

variable {F : FTy → Type} [FloatOps F]
-- ==== Proof.Pool.lean ====
/-
  The pooling of one embedding row, as a program of its own: fifty rows of a chunk buffer loaded one after the other
  and added into four rotating partial sums, and the scaled total stored into one row of the pooled buffer. The kernel
  writes this out four times, once for each of its chunk buffers; each of the four is shown to be this program.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Ker

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

/-- The factor the total is scaled by. -/
def invC : F .f32 := Named.named κ "inv" 0x3CA3D70A#32

/-- One row added to a partial sum. -/
abbrev addRow (a : FVec F S16 .f32) (x : Vec F S1x16 .f32) : FVec F S16 .f32 := addf a (shapeCast S16 x shapeCasts_S1x16_S16)

/-- A partial sum before any row. -/
abbrev acc0 : FVec F S16 .f32 := broadcast S16 (Scalar.ofBits .f32 0x00000000#32)

/-- The scaled total of the four partial sums after fifty rows (they have rotated by two places). -/
abbrev accOut (a0 a1 a2 a3 : FVec F S16 .f32) : FVec F S1x16 .f32 :=
  shapeCast S1x16 (mulf (addf (addf a2 a3) (addf a0 a1)) (broadcast S16 invC)) shapeCasts_S16_S1x16

/-- A program of vector subcore `L`. -/
abbrev PV (F : FTy → Type) (L : grid0.Coords) :=
  Prog (TpuEff nD τ sig (Elt F) Λ₀ (.scVector ((L 0).castLE hcore0) ((L 1).castLE hsub0)))

section
variable (L : grid0.Coords) (g : Memref sig .scVector .vmem S800x16 .f32)
  (off : BitVec 32 → Fin 2 → ℕ) (inb : ∀ r : Fin 50, ∀ a, off (BitVec.ofNat 32 r.val) a + S1x16.size a ≤ S800x16.size a)

/-- Rows `j`, `j + 1`, … of the fifty, `n` of them, into the partial sums; the row goes into the first of them, which
    becomes the last. -/
def poolFrom : (n : ℕ) → (j : ℕ) → j + n = 50 → (a0 a1 a2 a3 : FVec F S16 .f32) → PV F L (FVec F S1x16 .f32)
  | 0, _, _, a0, a1, a2, a3 => Pure.pure (accOut a0 a1 a2 a3)
  | n + 1, j, h, a0, a1, a2, a3 => do
    let x : Vec F S1x16 .f32 ← Prog.lift (.load g (Rect.unit (s := S800x16) (off (BitVec.ofNat 32 j)) S1x16.size (inb ⟨j, by omega⟩)).toLoadRect (View.loadsAt_vmem h_S1x16))
    poolFrom n (j + 1) (by omega) a1 a2 a3 (addRow a0 x)

/-- The pooling of one row into the pooled buffer's row at `off'`. -/
def poolRow (p : Memref sig .scVector .vmem S512x16 .f32) (off' : Fin 2 → ℕ) (inb' : ∀ a, off' a + S1x16.size a ≤ S512x16.size a) : PV F L (BitVec 32) := do
  let v ← poolFrom L g off inb 50 0 rfl acc0 acc0 acc0 acc0
  let _x : Vec F S1x16 .f32 ← Prog.lift (.load p (Rect.unit (s := S512x16) off' S1x16.size inb').toLoadRect (View.loadsAt_vmem h_S1x16))
  Prog.lift (.store p (Rect.unit (s := S512x16) off' S1x16.size inb') v Finset.univ (View.stores_vmem_bits_univ h_S1x16 rfl) (.inl rfl))
  Pure.pure 0#32
end

end Cert.Proof.Ker

end
-- ==== Proof.Base.lean ====
/-
  The launch as the run theorem sees it: the program's configuration, the algebra the proof's ghost state lives in (the
  handshakes' rounds, the staging cells' rounds of the dense layers' call, the transfers' counters), and the halving of
  the full share among the vector subcores.
-/
module

public import proofs.«01_k».proof.Proof.Pool
public import Idealize.ShloMosaic.Lib.Pipeline.Launch

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The configuration -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The staging cells' rounds. -/
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

theorem ownU_split (a : UH) (b : UP) :
    (ownU ((a, (b, 1)) : UU) : sProp 𝕄) ⊢ iprop(BI.own (EH (F := F) a) ∗ BI.own (EP (F := F) b)) := by
  have h : (ownU ((a, (b, 1)) : UU) : sProp 𝕄) ⊢ iprop(BI.own (EH (F := F) a) ∗ BI.own (((Emb.inr : Emb (UP × Counters) UU).trans
      (uEmb (nD := nD) (sig := sig) (Ix := HIx 1) (Val := Elt F) (Name := ℕ) (U := UU) (Lvl := ℕ)).toEmb) (b, (1 : Counters)))) :=
    BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))
  refine h.trans ?_
  iintro ⟨H1, H2⟩
  isplitl [H1]; · iexact H1
  ihave H3 := (own_pair_emb ((Emb.inr : Emb (UP × Counters) UU).trans
    (uEmb (nD := nD) (sig := sig) (Ix := HIx 1) (Val := Elt F) (Name := ℕ) (U := UU) (Lvl := ℕ)).toEmb) b (1 : Counters)) $$ H2
  icases H3 with ⟨H3, -⟩
  iexact H3

end Cert.Proof.Ker

end
-- ==== Proof.PoolRun.lean ====
/-
  What the pooling of one embedding row does to memory, and a loop of sixteen of them: the chunk buffer is only read,
  and the pooled buffer ends with sixteen of its rows replaced by the pooled rows of the chunk.
-/
module

public import proofs.«01_k».proof.Proof.Base
public import Idealize.ShloMosaic.Lib.Pointwise.Index
public import Idealize.ShloMosaic.Lib.Pipeline.Value

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The pooled row, as a function of the fifty rows -/

/-- Rows `j`, `j + 1`, …, `n` of them, added into the four rotating partial sums, then the scaled total. -/
def poolSum (R : Fin 50 → FVec F S16 .f32) : (n j : ℕ) → j + n = 50 → (a0 a1 a2 a3 : FVec F S16 .f32) → FVec F S16 .f32
  | 0, _, _, a0, a1, a2, a3 => mulf (addf (addf a2 a3) (addf a0 a1)) (broadcast S16 invC)
  | n + 1, j, h, a0, a1, a2, a3 => poolSum R n (j + 1) (by omega) a1 a2 a3 (addf a0 (R ⟨j, by omega⟩))

/-- The pooled row of fifty rows. -/
def pooled (R : Fin 50 → FVec F S16 .f32) : FVec F S16 .f32 := poolSum R 50 0 rfl acc0 acc0 acc0 acc0

/-- Row `j` of the fifty rows of a chunk that are pooled into its row `t`. -/
def chunkRow (G : Vec F S800x16 .f32) (t : Fin 16) (j : Fin 50) : FVec F S16 .f32 :=
  fun y => G (ix2 (n0 := 800) (n1 := 16) ⟨50 * t.val + j.val, by omega⟩ (y 0))

section
variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

variable (g : Memref sig .scVector .vmem S800x16 .f32) (p : Memref sig .scVector .vmem S512x16 .f32)

section
variable (off : BitVec 32 → Fin 2 → ℕ) (inb : ∀ r : Fin 50, ∀ a, off (BitVec.ofNat 32 r.val) a + S1x16.size a ≤ S800x16.size a)

/-- What the loads of one row read, when the row's place is known. -/
theorem load_row (f : Buf (Elt F) (g.view.loc (thrV d L))) (t : Fin 16) (j : Fin 50)
    (hoff : off (BitVec.ofNat 32 j.val) = ![50 * t.val + j.val, 0]) :
    shapeCast S16 (g.view.readAt (Elt F) (Rect.unit (s := S800x16) (off (BitVec.ofNat 32 j.val)) S1x16.size (inb j)).toLoadRect f) shapeCasts_S1x16_S16
      = chunkRow (g.view.read (Elt F) f) t j := by
  funext y
  refine (shapeCast_dropUnit_apply ![16] _ shapeCasts_S1x16_S16 y).trans ?_
  rw [View.readAt_apply]
  show g.view.read (Elt F) f _ = g.view.read (Elt F) f _
  congr 1
  funext a
  match a with
  | 0 => refine Fin.ext ?_; simp [hoff, ix2, LoadRect.idx, Rect.toLoadRect]; rfl
  | 1 => refine Fin.ext ?_; simp [hoff, ix2, LoadRect.idx, Rect.toLoadRect]; rfl

theorem wp_poolFrom (f : Buf (Elt F) (g.view.loc (thrV d L))) (t : Fin 16)
    (hoff : ∀ j : Fin 50, off (BitVec.ofNat 32 j.val) = ![50 * t.val + j.val, 0]) (Q : FVec F S1x16 .f32 → sProp 𝕄) :
    ∀ (n j : ℕ) (h : j + n = 50) (a0 a1 a2 a3 : FVec F S16 .f32),
    iprop((g.view.loc (thrV d L) ↦[g.view.set]{fullShare} f)
        ∗ ((g.view.loc (thrV d L) ↦[g.view.set]{fullShare} f)
          -∗ Q (shapeCast S1x16 (poolSum (chunkRow (g.view.read (Elt F) f) t) n j h a0 a1 a2 a3) shapeCasts_S16_S1x16)))
      ⊢ wp frame (wpE (defs₀ (F := F)) 𝒱₀ (thrV d L) none) Set.univ (poolFrom L g off inb n j h a0 a1 a2 a3) Q
  | 0, j, h, a0, a1, a2, a3 => by
    iintro ⟨Hg, HQ⟩
    unfold poolFrom poolSum
    simp only [wp_pure]
    imodintro
    iapply HQ; iexact Hg
  | n + 1, j, h, a0, a1, a2, a3 => by
    iintro ⟨Hg, HQ⟩
    unfold poolFrom
    iapply (wp_load 𝒱₀ (thrV d L) none Set.univ (S := g.view.set) (View.setOn_subset_set _ _)) $$ Hg
    iintro Hg
    have e := load_row d L g off inb f t ⟨j, by omega⟩ (hoff _)
    have ih := wp_poolFrom f t hoff Q n (j + 1) (by omega) a1 a2 a3 (addf a0 (chunkRow (g.view.read (Elt F) f) t ⟨j, by omega⟩))
    rw [← e] at ih
    iapply ih
    rw [e]
    isplitl [Hg]; · iexact Hg
    iexact HQ

/-- The pooled buffer's contents `P'` are `P` with the rows from `base` on, `n` of them, the pooled rows of the chunk `G`. -/
def PoolTo (G : Vec F S800x16 .f32) (base n : ℕ) (P P' : Vec F S512x16 .f32) : Prop :=
  (∀ (t : Fin 16) (r : Fin 512) (l : Fin 16), t.val < n → r.val = base + t.val → P' (ix2 r l) = pooled (chunkRow G t) (ix1 l))
    ∧ ∀ (r : Fin 512) (l : Fin 16), ¬(base ≤ r.val ∧ r.val < base + n) → P' (ix2 r l) = P (ix2 r l)

theorem PoolTo.zero (G : Vec F S800x16 .f32) (base : ℕ) (P : Vec F S512x16 .f32) : PoolTo G base 0 P P :=
  ⟨fun _ _ _ h => absurd h (Nat.not_lt_zero _), fun _ _ _ => rfl⟩

/-- One more row stored. -/
theorem PoolTo.step {G : Vec F S800x16 .f32} {base : ℕ} {P : Vec F S512x16 .f32} (t : Fin 16)
    (off' : Fin 2 → ℕ) (inb' : ∀ a, off' a + S1x16.size a ≤ S512x16.size a) (hoff' : off' = ![base + t.val, 0])
    {fp : Buf (Elt F) (p.view.loc (thrV d L))} (h : PoolTo G base t.val P (p.view.read (Elt F) fp)) :
    PoolTo G base (t.val + 1) P (p.view.read (Elt F) ((p.access (Rect.unit (s := S512x16) off' S1x16.size inb')).write (Elt F) fp
      (shapeCast S1x16 (pooled (chunkRow G t)) shapeCasts_S16_S1x16) Finset.univ)) := by
  subst hoff'
  have hin : ∀ (r : Fin 512) (l : Fin 16), r.val = base + t.val →
      (Rect.unit (s := S512x16) ![base + t.val, 0] S1x16.size inb').emb (ix2 (n0 := 1) (n1 := 16) 0 l) = ix2 (n0 := 512) (n1 := 16) r l := by
    intro r l hr; funext a
    match a with
    | 0 => refine Fin.ext ?_; rw [Rect.emb_apply]; simp [ix2, hr]
    | 1 => refine Fin.ext ?_; rw [Rect.emb_apply]; simp [ix2]
  have hrow : ∀ (r : Fin 512) (l : Fin 16), r.val = base + t.val →
      p.view.read (Elt F) ((p.access (Rect.unit (s := S512x16) ![base + t.val, 0] S1x16.size inb')).write (Elt F) fp
        (shapeCast S1x16 (pooled (chunkRow G t)) shapeCasts_S16_S1x16) Finset.univ) (ix2 (n0 := 512) (n1 := 16) r l) = pooled (chunkRow G t) (ix1 l) := by
    intro r l hr
    rw [← hin r l hr]
    refine (View.read_slice_write_emb (v := p.view) _ fp _ (Finset.mem_univ _)).trans ?_
    refine (shapeCast_addUnit_apply ![16] _ shapeCasts_S16_S1x16 _).trans ?_
    congr 1
    funext a
    match a with
    | 0 => rfl
  have hout : ∀ (r : Fin 512) (l : Fin 16), r.val ≠ base + t.val →
      p.view.read (Elt F) ((p.access (Rect.unit (s := S512x16) ![base + t.val, 0] S1x16.size inb')).write (Elt F) fp
        (shapeCast S1x16 (pooled (chunkRow G t)) shapeCasts_S16_S1x16) Finset.univ) (ix2 (n0 := 512) (n1 := 16) r l)
        = p.view.read (Elt F) fp (ix2 (n0 := 512) (n1 := 16) r l) := by
    intro r l hr
    refine View.read_slice_write_of_not_mem (v := p.view) _ fp _ _ fun hm => hr ?_
    obtain ⟨x, -, hx⟩ := Finset.mem_map.mp hm
    have h0 := congrArg Fin.val (congrFun hx 0)
    have hx0 : (x 0).val = 0 := by have := (x 0).isLt; simp at this; omega
    rw [Rect.emb_apply] at h0
    simp [ix2, hx0] at h0
    omega
  refine ⟨fun t' r l ht' hr => ?_, fun r l hr => ?_⟩
  · by_cases e : t' = t
    · subst e; exact hrow r l hr
    · have hne : t'.val ≠ t.val := fun h => e (Fin.ext h)
      rw [hout r l (by omega)]
      exact h.1 t' r l (by omega) hr
  · rw [hout r l (by omega)]
    exact h.2 r l (by omega)

theorem wp_poolRow (f : Buf (Elt F) (g.view.loc (thrV d L))) (fp : Buf (Elt F) (p.view.loc (thrV d L))) (t : Fin 16)
    (hoff : ∀ j : Fin 50, off (BitVec.ofNat 32 j.val) = ![50 * t.val + j.val, 0])
    (off' : Fin 2 → ℕ) (inb' : ∀ a, off' a + S1x16.size a ≤ S512x16.size a) (Q : BitVec 32 → sProp 𝕄) :
    iprop((g.view.loc (thrV d L) ↦[g.view.set]{fullShare} f) ∗ (p.view.loc (thrV d L) ↦[p.view.set]{fullShare} fp)
        ∗ ((g.view.loc (thrV d L) ↦[g.view.set]{fullShare} f)
          -∗ (p.view.loc (thrV d L) ↦[p.view.set]{fullShare}
              ((p.access (Rect.unit (s := S512x16) off' S1x16.size inb')).write (Elt F) fp
                (shapeCast S1x16 (pooled (chunkRow (g.view.read (Elt F) f) t)) shapeCasts_S16_S1x16) Finset.univ))
          -∗ Q 0#32))
      ⊢ wp frame (wpE (defs₀ (F := F)) 𝒱₀ (thrV d L) none) Set.univ (poolRow L g off inb p off' inb') Q := by
  unfold poolRow
  rw [wp_bind]
  iintro ⟨Hg, Hp, HQ⟩
  iapply (wp_poolFrom d L g off inb f t hoff _ 50 0 rfl acc0 acc0 acc0 acc0)
  isplitl [Hg]; · iexact Hg
  iintro Hg
  iapply (wp_load 𝒱₀ (thrV d L) none Set.univ (m := p) (S := p.view.set) (View.setOn_subset_set _ _)) $$ Hp
  iintro Hp
  iapply (wp_store 𝒱₀ (thrV d L) none Set.univ (m := p) (r := Rect.unit (s := S512x16) off' S1x16.size inb')
    (S := (p.view.set : Finset (Idx ((p.access (Rect.unit (s := S512x16) off' S1x16.size inb')).loc (thrV d L)))))
    ((View.setOn_subset_set _ _).trans (View.set_slice_subset _ _))) $$ Hp
  iintro Hp
  show _ ⊢ wp frame (wpE (defs₀ (F := F)) 𝒱₀ (thrV d L) none) Set.univ (Prog.ret (0#32 : BitVec 32)) Q
  rw [wp_ret]
  iintro ⟨⟨HQ, Hg⟩, Hp⟩
  imodintro
  iapply HQ $$ Hg; iexact Hp

end

/-- Sixteen rows, one a trip, into the sixteen rows of the pooled buffer from `base` on. -/
theorem wp_poolLoop (lp : Scf.Loop 32) (hok : lp.OK) (htr : lp.trips = 16)
    (off : Fin lp.trips → BitVec 32 → Fin 2 → ℕ) (inb : ∀ k, ∀ r : Fin 50, ∀ a, off k (BitVec.ofNat 32 r.val) a + S1x16.size a ≤ S800x16.size a)
    (off' : Fin lp.trips → Fin 2 → ℕ) (inb' : ∀ k, ∀ a, off' k a + S1x16.size a ≤ S512x16.size a) (base : ℕ)
    (hoff : ∀ k (j : Fin 50), off k (BitVec.ofNat 32 j.val) = ![50 * k.val + j.val, 0]) (hoff' : ∀ k, off' k = ![base + k.val, 0])
    (f : Buf (Elt F) (g.view.loc (thrV d L))) (fp : Buf (Elt F) (p.view.loc (thrV d L)))
    {β : Type} (kk : BitVec 32 → PV F L β) (Q : β → sProp 𝕄) :
    iprop((g.view.loc (thrV d L) ↦[g.view.set]{fullShare} f) ∗ (p.view.loc (thrV d L) ↦[p.view.set]{fullShare} fp)
        ∗ (∀ acc fp', ⌜PoolTo (g.view.read (Elt F) f) base 16 (p.view.read (Elt F) fp) (p.view.read (Elt F) fp')⌝
          -∗ (g.view.loc (thrV d L) ↦[g.view.set]{fullShare} f)
          -∗ (p.view.loc (thrV d L) ↦[p.view.set]{fullShare} fp')
          -∗ wp frame (wpE (defs₀ (F := F)) 𝒱₀ (thrV d L) none) Set.univ (kk acc) Q))
      ⊢ wp frame (wpE (defs₀ (F := F)) 𝒱₀ (thrV d L) none) Set.univ
          (Scf.Loop.for lp hok 0#32 (fun k _ => poolRow L g (off k) (inb k) p (off' k) (inb' k)) >>= kk) Q := by
  let I : ℕ → BitVec 32 → sProp 𝕄 := fun n _ => iprop((g.view.loc (thrV d L) ↦[g.view.set]{fullShare} f)
    ∗ ∃ fp', ⌜PoolTo (g.view.read (Elt F) f) base n (p.view.read (Elt F) fp) (p.view.read (Elt F) fp')⌝
      ∗ (p.view.loc (thrV d L) ↦[p.view.set]{fullShare} fp'))
  have hbody : ∀ (k : Fin lp.trips) (acc : BitVec 32), I k.val acc ⊢ wp frame (wpE (defs₀ (F := F)) 𝒱₀ (thrV d L) none) Set.univ
      (poolRow L g (off k) (inb k) p (off' k) (inb' k)) (I (k.val + 1)) := by
    intro k acc
    iintro ⟨Hg, %fp', %hfp, Hp⟩
    iapply (wp_poolRow d L g p (off k) (inb k) f fp' ⟨k.val, htr ▸ k.isLt⟩ (hoff k) (off' k) (inb' k) _)
    isplitl [Hg]; · iexact Hg
    isplitl [Hp]; · iexact Hp
    iintro Hg Hp
    isplitl [Hg]; · iexact Hg
    iexists _
    isplitr
    swap; · iexact Hp
    ipureintro
    exact PoolTo.step d L p ⟨k.val, htr ▸ k.isLt⟩ (off' k) (inb' k) (hoff' k) hfp
  iintro ⟨Hg, Hp, HQ⟩
  iapply (Scf.wp_for_bind frame (wpE (defs₀ (F := F)) 𝒱₀ (thrV d L) none) Set.univ lp.lb lp.ub lp.st hok (0#32 : BitVec 32) _ I hbody) $$ [Hg Hp]
  · isplitl [Hg]; · iexact Hg
    iexists fp
    isplitr; · ipureintro; exact PoolTo.zero _ _ _
    iexact Hp
  iintro %acc ⟨Hg, %fp', %hfp, Hp⟩
  iapply HQ $$ %acc %fp' [] Hg Hp
  ipureintro
  have e : lp.trips = 16 := htr
  exact e ▸ hfp

end

end Cert.Proof.Ker

end
-- ==== Proof.Chunk.lean ====
/-
  The fetching of one chunk: eight hundred table rows, named by eight hundred consecutive entries of the list, streamed
  into a chunk buffer. A buffer is idle (its place, its share of the table and of the list, its counter at zero) or a
  chunk is on its way to it.
-/
module

public import proofs.«01_k».proof.Proof.PoolRun

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The rows the list names -/

/-- The table's entry in row `n` (its first row when there is no such row) and column `l`. -/
def tblAt (T : Vec F S1000000x16 .f32) (n : ℕ) (l : Fin 16) : F .f32 :=
  if h : n < 1000000 then T (ix2 (n0 := 1000000) (n1 := 16) ⟨n, h⟩ l) else T (ix2 (n0 := 1000000) (n1 := 16) 0 l)

/-- Chunk `c` of the list `I`: the rows of the table `T` that entries `800 c`, … of the list name. -/
def chunkOf (T : Vec F S1000000x16 .f32) (I : Vec F S25600 .i32) (c : Fin 32) : Vec F S800x16 .f32 :=
  fun y => tblAt T (BitVec.toNat (I (ix1 (n0 := 25600) ⟨800 * c.val + (y 0).val, by have := (y 0).isLt; simp at this; omega⟩))) (y 1)

/-- Pooled row `r` of a subcore's list `I`: the fifty rows that entries `50 r`, … name, pooled. -/
def rowVal (T : Vec F S1000000x16 .f32) (I : Vec F S25600 .i32) (r : Fin 512) : FVec F S16 .f32 :=
  pooled fun j y => tblAt T (BitVec.toNat (I (ix1 (n0 := 25600) ⟨50 * r.val + j.val, by omega⟩))) (y 0)

/-- Row `t` of chunk `c` is pooled row `16 c + t`. -/
theorem pooled_chunkOf (T : Vec F S1000000x16 .f32) (I : Vec F S25600 .i32) (c : Fin 32) (t : Fin 16) (r : Fin 512) (hr : r.val = 16 * c.val + t.val) :
    pooled (chunkRow (chunkOf T I c) t) = rowVal T I r := by
  unfold rowVal
  congr 1
  funext j y
  unfold chunkRow chunkOf
  have e : (⟨800 * c.val + (50 * t.val + j.val), by omega⟩ : Fin 25600) = ⟨50 * r.val + j.val, by omega⟩ := Fin.ext (by simp only; omega)
  exact congrArg (fun z => tblAt T (BitVec.toNat (I (ix1 (n0 := 25600) z))) (y 0)) e

section
variable (d : Dev nD) (L : grid0.Coords)
variable (src : Memref sig .scVector .hbm S1000000x16 .f32) (iv : Memref sig .scVector .vmem S25600 .i32)
variable (g : Memref sig .scVector .vmem S800x16 .f32) (sem : DmaSem sig)
variable (q qo : PosShare TreeShare) (ft : Buf (Elt F) (src.view.loc (thrV d L))) (fi : Buf (Elt F) (iv.view.loc (thrV d L)))

/-- The eight hundred entries of the list from `off` on. -/
abbrev offsAt (off : Fin 1 → ℕ) (inb : ∀ a, off a + S800.size a ≤ S25600.size a) : Memref sig .scVector .vmem S800 .i32 :=
  iv.slice (Rect.unit (s := S25600) off S800.size inb) (fun _ => rfl)

/-- What the stream lands is the chunk. -/
theorem gather_eq (c : Fin 32) (off : Fin 1 → ℕ) (inb : ∀ a, off a + S800.size a ≤ S25600.size a) (hoff : off = ![800 * c.val])
    (hin : ∀ x, ((offsAt iv off inb).view.read (Elt F) fi x).toNat < S1000000x16.size gathers_S1000000x16_S800x16.axis) :
    SparseCore.gatherPayload gathers_S1000000x16_S800x16 (src.view.read (Elt F) ft) (SparseCore.rows ((offsAt iv off inb).view.read (Elt F) fi) rfl hin)
      = chunkOf (src.view.read (Elt F) ft) (iv.view.read (Elt F) fi) c := by
  subst hoff
  funext y
  unfold SparseCore.gatherPayload chunkOf
  have e1 : (offsAt iv ![800 * c.val] inb).view.read (Elt F) fi (S800.rowMajor.symm ((y 0).cast rfl))
      = iv.view.read (Elt F) fi (ix1 (n0 := 25600) ⟨800 * c.val + (y 0).val, by have := (y 0).isLt; simp at this; omega⟩) := by
    show iv.view.read (Elt F) fi ((Rect.unit (s := S25600) ![800 * c.val] S800.size inb).emb _) = _
    congr 1
    funext a
    match a with
    | 0 =>
      refine Fin.ext ?_
      rw [Rect.emb_apply]
      have h := Shape.rowMajor_val_one (d := ![800]) (S800.rowMajor.symm ((y 0).cast rfl))
      have h2 : (S800.rowMajor (S800.rowMajor.symm ((y 0).cast rfl))) = (y 0).cast rfl := Equiv.apply_symm_apply _ _
      have h3 : ((S800.rowMajor.symm ((y 0).cast rfl)) 0).val = (y 0).val := by rw [← h]; exact congrArg Fin.val h2
      show _ + _ * ((S800.rowMajor.symm ((y 0).cast rfl)) 0).val = _
      rw [h3]; simp [ix1]
  have hlt : BitVec.toNat (iv.view.read (Elt F) fi (ix1 (n0 := 25600) ⟨800 * c.val + (y 0).val, by have := (y 0).isLt; simp at this; omega⟩)) < 1000000 :=
    e1 ▸ hin (S800.rowMajor.symm ((y 0).cast rfl))
  unfold tblAt
  refine Eq.trans ?_ (dif_pos hlt).symm
  congr 1
  funext a
  match a with
  | 0 =>
    refine (Shape.Gathers.idx_axis _ _ _).trans ?_
    refine Fin.ext ?_
    have e2 := congrArg (fun b : BitVec 32 => b.toNat) e1
    exact e2
  | 1 =>
    refine Fin.ext ?_
    exact (Shape.Gathers.idx_of_ne _ _ _ _ (by decide))

/-- A buffer with nothing on its way to it. -/
def Idle : sProp 𝕄 :=
  iprop((∃ fd, g.view.loc (thrV d L) ↦[g.view.set]{fullShare} fd) ∗ (src.view.loc (thrV d L) ↦[src.view.set]{q} ft)
    ∗ (iv.view.loc (thrV d L) ↦[iv.view.set]{qo} fi) ∗ semVal (thrV d L, .dma sem) 0)

/-- A buffer to which chunk `c` is on its way. -/
def Fly (c : Fin 32) : sProp 𝕄 :=
  iprop(∃ fg, ⌜g.view.read (Elt F) fg = chunkOf (src.view.read (Elt F) ft) (iv.view.read (Elt F) fi) c⌝
    ∗ ∃ (S : Finset (Idx (iv.view.loc (thrV d L)))), ⌜S ⊆ iv.view.set⌝
    ∗ Transfers.Flight countersEmb (thrV d L) (.dma sem) (default : HIx 1) g.view.dmaCredit
        iprop((g.view.loc (thrV d L) ↦[g.view.set]{fullShare} fg) ∗ (src.view.loc (thrV d L) ↦[src.view.set]{q} ft)
          ∗ (iv.view.loc (thrV d L) ↦[S]{qo} fi))
    ∗ (iv.view.loc (thrV d L) ↦[iv.view.set \ S]{qo} fi))

/-- A buffer that holds chunk `c`. -/
def Got (c : Fin 32) : sProp 𝕄 :=
  iprop(∃ fg, ⌜g.view.read (Elt F) fg = chunkOf (src.view.read (Elt F) ft) (iv.view.read (Elt F) fi) c⌝
    ∗ (g.view.loc (thrV d L) ↦[g.view.set]{fullShare} fg) ∗ (src.view.loc (thrV d L) ↦[src.view.set]{q} ft)
    ∗ (iv.view.loc (thrV d L) ↦[iv.view.set]{qo} fi) ∗ semVal (thrV d L, .dma sem) 0)

/-- A fetch started. -/
theorem wp_fetch (hN : ∀ h : S1000000x16.Gathers 0 S800x16, ∑ j, (g.slice (S800x16.rowRect h.axis' j) (S800x16.stride_rowRect h.axis' j)).view.dmaCredit = g.view.dmaCredit)
    (hI : ∀ x, BitVec.toNat (iv.view.read (Elt F) fi x) < 1000000)
    (c : Fin 32) (off : Fin 1 → ℕ) (inb : ∀ a, off a + S800.size a ≤ S25600.size a) (hoff : off = ![800 * c.val])
    {hsrc : src.view.WordExact} {β : Type} (k : PUnit → PV F L β) (Q : β → sProp 𝕄) :
    iprop(Idle d L src iv g sem q qo ft fi
        ∗ (Fly d L src iv g sem q qo ft fi c -∗ wp frame (wpE (defs₀ (F := F)) 𝒱₀ (thrV d L) none) Set.univ (k ⟨⟩) Q))
      ⊢ wp frame (wpE (defs₀ (F := F)) 𝒱₀ (thrV d L) none) Set.univ
          (SparseCore.enqueueIndirectGather rfl src g gathers_S1000000x16_S800x16 (offsAt iv off inb) rfl sem hsrc rfl (Or.inl rfl) >>= k) Q := by
  unfold Idle
  iintro ⟨⟨⟨%fd, Hg⟩, Hs, Hi, Hsem⟩, HK⟩
  have hsub : (offsAt iv off inb).view.set ⊆ iv.view.set := View.set_slice_subset _ _
  have hin : ∀ x, ((offsAt iv off inb).view.read (Elt F) fi x).toNat < S1000000x16.size gathers_S1000000x16_S800x16.axis := fun x => hI _
  ihave Hi' := (pointsTo_split_subset (q := qo) (f := fi) (S := iv.view.set) hsub).1 $$ Hi
  icases Hi' with ⟨Hi, Hr⟩
  iapply (SparseCore.wp_indirectGatherLocal countersEmb 𝒱₀ (thrV d L) none (hg := gathers_S1000000x16_S800x16) (default : HIx 1)
      g.view.dmaCredit (hN _) (by decide) hin) $$ [Hg Hs Hi Hsem]
  · isplitl [Hs]; · iexact Hs
    isplitl [Hg]; · iexact Hg
    isplitl [Hi]; · iexact Hi
    iexact Hsem
  iintro Hfl
  iapply HK
  unfold Fly
  iexists (g.view.write (Elt F) fd (SparseCore.gatherPayload gathers_S1000000x16_S800x16 (src.view.read (Elt F) ft)
    (SparseCore.rows ((offsAt iv off inb).view.read (Elt F) fi) rfl hin)) Finset.univ)
  isplitr
  · ipureintro
    exact (View.read_write_univ _ _).trans (gather_eq d L src iv ft fi c off inb hoff hin)
  iexists (offsAt iv off inb).view.set
  isplitr
  · ipureintro; exact hsub
  isplitl [Hfl]; · iexact Hfl
  iexact Hr

/-- A fetch waited for. -/
theorem wp_take (O : CellTallies nD τ sig (HIx 1)) (hO : ∀ g, O g none = 0) (W : Waits sig (HIx 1)) (c : Fin 32)
    {hsrc : src.view.WordExact} {hdst : g.view.WordExact} {β : Type} (k : PUnit → PV F L β) (Q : β → sProp 𝕄) :
    iprop(levAts (K (F := F)).L (K (F := F)).lev ∗ Fly d L src iv g sem q qo ft fi c ∗ owes (thrV d L) O W
        ∗ (Got d L src iv g sem q qo ft fi c -∗ owes (thrV d L) O (insert (SemLoc.dma sem, (default : HIx 1)) W)
          -∗ wp frame (wpE (defs₀ (F := F)) 𝒱₀ (thrV d L) none) Set.univ (k ⟨⟩) Q))
      ⊢ wp frame (wpE (defs₀ (F := F)) 𝒱₀ (thrV d L) none) Set.univ (SparseCore.waitIndirectGather sem src g hsrc hdst >>= k) Q := by
  unfold Fly
  iintro ⟨#Hlv, ⟨%fg, %hfg, %S, %hS, Hfl, Hr⟩, HO, HK⟩
  ihave Hmw := (show levAts (K (F := F)).L (K (F := F)).lev ⊢ Transfers.MayWaits (thrV d L) (default : HIx 1) O from
    (K (F := F)).mayWaits_none (thr := thrV d L) hO) $$ Hlv
  iapply (Transfers.wp_waitLocalO countersEmb 𝒱₀ (thrV d L) none (default : HIx 1) (rfl : g.view.dmaCredit = _)) $$ [Hfl HO Hmw]
  · isplitl [Hfl]; · iexact Hfl
    isplitl [HO]; · iexact HO
    iapply (Transfers.MayWaits.elim (SemLoc.dma sem)) $$ Hmw
  iintro ⟨⟨Hg, Hs, Hi⟩, Hsem, HO⟩
  ihave Hi' := (pointsTo_split_subset (q := qo) (f := fi) (S := iv.view.set) hS).2 $$ [Hi Hr]
  · isplitl [Hi] <;> iassumption
  iapply HK $$ [Hg Hs Hi' Hsem] HO
  unfold Got
  iexists fg
  isplitr; · ipureintro; exact hfg
  isplitl [Hg]; · iexact Hg
  isplitl [Hs]; · iexact Hs
  isplitl [Hi']; · iexact Hi'
  iexact Hsem

end

end Cert.Proof.Ker

end
-- ==== Proof.PoolEq.lean ====
/-
  The bodies of the kernel's four accumulation loops, one for each chunk buffer, are the pooling of one row.
-/
module

public import proofs.«01_k».proof.Proof.Pool

@[expose] public section

noncomputable section

namespace Cert.Proof.Ker

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

section
variable (i : grid0.Coords) (arg2 : Memref sig .scVector .hbm S1000000x16 .f32) (harg2 : arg2.IsWhole) (arg3 : Memref sig .scVector .hbm S32x25600 .i32) (harg3 : arg3.IsWhole) (arg4 : Memref sig .scVector .hbm S16384x16 .f32) (harg4 : arg4.IsWhole) (arg5 : Memref sig .scVector .vmem S25600 .i32) (harg5 : arg5.IsWhole) (arg6 : Memref sig .scVector .vmem S800x16 .f32) (harg6 : arg6.IsWhole) (arg7 : Memref sig .scVector .vmem S800x16 .f32) (harg7 : arg7.IsWhole) (arg8 : Memref sig .scVector .vmem S800x16 .f32) (harg8 : arg8.IsWhole) (arg9 : Memref sig .scVector .vmem S800x16 .f32) (harg9 : arg9.IsWhole) (arg10 : Memref sig .scVector .vmem S512x16 .f32) (harg10 : arg10.IsWhole) (arg11 arg12 arg13 arg14 v13_r0 v13_r1 : DmaSems sig S_)

set_option maxRecDepth 65536 in
set_option maxHeartbeats 4000000 in
theorem t2_body_eq (c0 c1 : BitVec 32) (t1 : Fin k0_t1_loop.trips) :
    k0_t2_body (F := F) i arg2 harg2 arg3 harg3 arg4 harg4 arg5 harg5 arg6 harg6 arg7 harg7 arg8 harg8 arg9 harg9 arg10 harg10 arg11 arg12 arg13 arg14 v13_r0 v13_r1 c0 c1 t1
      = fun k _ => poolRow i arg6 (k0_off3 k) (k0_off3_inb k) arg10 (k0_off4 t1 k) (k0_off4_inb t1 k) := rfl

set_option maxRecDepth 65536 in
set_option maxHeartbeats 4000000 in
theorem t3_body_eq (c0 c1 : BitVec 32) (t1 : Fin k0_t1_loop.trips) :
    k0_t3_body (F := F) i arg2 harg2 arg3 harg3 arg4 harg4 arg5 harg5 arg6 harg6 arg7 harg7 arg8 harg8 arg9 harg9 arg10 harg10 arg11 arg12 arg13 arg14 v13_r0 v13_r1 c0 c1 t1
      = fun k _ => poolRow i arg7 (k0_off6 k) (k0_off6_inb k) arg10 (k0_off7 t1 k) (k0_off7_inb t1 k) := rfl

set_option maxRecDepth 65536 in
set_option maxHeartbeats 4000000 in
theorem t4_body_eq (t1 : Fin k0_t1_loop.trips) :
    k0_t4_body (F := F) i arg2 harg2 arg3 harg3 arg4 harg4 arg5 harg5 arg6 harg6 arg7 harg7 arg8 harg8 arg9 harg9 arg10 harg10 arg11 arg12 arg13 arg14 v13_r0 v13_r1 t1
      = fun k _ => poolRow i arg8 (k0_off9 k) (k0_off9_inb k) arg10 (k0_off10 t1 k) (k0_off10_inb t1 k) := rfl

set_option maxRecDepth 65536 in
set_option maxHeartbeats 4000000 in
theorem t5_body_eq (t1 : Fin k0_t1_loop.trips) :
    k0_t5_body (F := F) i arg2 harg2 arg3 harg3 arg4 harg4 arg5 harg5 arg6 harg6 arg7 harg7 arg8 harg8 arg9 harg9 arg10 harg10 arg11 arg12 arg13 arg14 v13_r0 v13_r1 t1
      = fun k _ => poolRow i arg9 (k0_off12 k) (k0_off12_inb k) arg10 (k0_off13 t1 k) (k0_off13_inb t1 k) := rfl

end

end Cert.Proof.Ker

end
-- ==== Proof.Buf.lean ====
/-
  The loop over the thirty-two chunks, four a trip: each trip waits for each of the four buffers in turn, pools its
  sixteen rows, and sends the buffer for the chunk four further on, when there is one.
-/
module

public import proofs.«01_k».proof.Proof.Chunk
public import proofs.«01_k».proof.Proof.PoolEq

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The pooled buffer's first `n` rows are pooled. -/
def PoolUpTo (T : Vec F S1000000x16 .f32) (I : Vec F S25600 .i32) (n : ℕ) (P : Vec F S512x16 .f32) : Prop :=
  ∀ (r : Fin 512) (l : Fin 16), r.val < n → P (ix2 r l) = rowVal T I r (ix1 l)

theorem PoolUpTo.chunk {T : Vec F S1000000x16 .f32} {I : Vec F S25600 .i32} {c : Fin 32} {P P' : Vec F S512x16 .f32} {n : ℕ} (hn : n = 16 * c.val)
    (h : PoolUpTo T I n P) (h' : PoolTo (chunkOf T I c) n 16 P P') : PoolUpTo T I (n + 16) P' := by
  subst hn
  intro r l hr
  by_cases hlo : r.val < 16 * c.val
  · rw [h'.2 r l (by omega)]; exact h r l hlo
  · rw [h'.1 ⟨r.val - 16 * c.val, by omega⟩ r l (by simp only; omega) (by simp only; omega)]
    exact congrFun (pooled_chunkOf T I c _ r (by simp only; omega)) (ix1 l)

section
variable (d : Dev nD) (L : grid0.Coords)

/-- The waits recorded so far are the given ones, or on counters of the subcore's own transfers. -/
abbrev WOK (W W' : Waits sig (HIx 1)) : Prop := ∀ p ∈ W', p ∈ W ∨ p.2 = none

theorem WOK.insert {W W' : Waits sig (HIx 1)} (h : WOK W W') (s : SemLoc sig) : WOK W (Insert.insert (s, (default : HIx 1)) W') := by
  intro p hp
  rcases Finset.mem_insert.mp hp with hp | hp
  · exact .inr (hp ▸ rfl)
  · exact h p hp

section
variable (src : Memref sig .scVector .hbm S1000000x16 .f32) (iv : Memref sig .scVector .vmem S25600 .i32)
variable (g : Memref sig .scVector .vmem S800x16 .f32) (p : Memref sig .scVector .vmem S512x16 .f32) (sem : DmaSem sig)
variable (q qo : PosShare TreeShare) (ft : Buf (Elt F) (src.view.loc (thrV d L))) (fi : Buf (Elt F) (iv.view.loc (thrV d L)))
variable (O : CellTallies nD τ sig (HIx 1)) (W : Waits sig (HIx 1))

/-- Buffer `b` before trip `t`: chunk `4 t + b` is on its way to it, or there is no such chunk. -/
def BufSt (t : ℕ) (b : ℕ) : sProp 𝕄 :=
  if h : 4 * t + b < 32 then Fly d L src iv g sem q qo ft fi ⟨4 * t + b, h⟩ else Idle d L src iv g sem q qo ft fi

/-- The pooled buffer with its first `n` rows pooled, and the waits recorded. -/
def RunSt (n : ℕ) : sProp 𝕄 :=
  iprop(∃ W', ⌜WOK W W'⌝ ∗ owes (thrV d L) O W'
    ∗ ∃ fp, ⌜PoolUpTo (src.view.read (Elt F) ft) (iv.view.read (Elt F) fi) n (p.view.read (Elt F) fp)⌝
      ∗ (p.view.loc (thrV d L) ↦[p.view.set]{fullShare} fp))

set_option maxHeartbeats 1000000 in
theorem wp_buf (hO : ∀ g, O g none = 0)
    (hN : ∀ h : S1000000x16.Gathers 0 S800x16, ∑ j, (g.slice (S800x16.rowRect h.axis' j) (S800x16.stride_rowRect h.axis' j)).view.dmaCredit = g.view.dmaCredit)
    (hI : ∀ x, BitVec.toNat (iv.view.read (Elt F) fi x) < 1000000)
    (t : ℕ) (ht : t < 8) (b : ℕ) (hb : b < 4)
    (lp : Scf.Loop 32) (hok : lp.OK) (htr : lp.trips = 16)
    (off : Fin lp.trips → BitVec 32 → Fin 2 → ℕ) (inb : ∀ k, ∀ r : Fin 50, ∀ a, off k (BitVec.ofNat 32 r.val) a + S1x16.size a ≤ S800x16.size a)
    (off' : Fin lp.trips → Fin 2 → ℕ) (inb' : ∀ k, ∀ a, off' k a + S1x16.size a ≤ S512x16.size a) (n : ℕ) (hn : n = 64 * t + 16 * b)
    (hoff : ∀ k (j : Fin 50), off k (BitVec.ofNat 32 j.val) = ![50 * k.val + j.val, 0]) (hoff' : ∀ k, off' k = ![n + k.val, 0])
    (cond : BitVec 1) (hcond : cond = 1#1 ↔ t < 7)
    (offc : Fin 1 → ℕ) (inbc : cond = 1#1 → ∀ a, offc a + S800.size a ≤ S25600.size a) (hoffc : offc = ![3200 * t + 3200 + 800 * b])
    {hsrc : src.view.WordExact} {hsrc' : src.view.WordExact} {hdst : g.view.WordExact} {β : Type} (jp : PV F L β) (Q : β → sProp 𝕄) :
    iprop(levAts (K (F := F)).L (K (F := F)).lev ∗ BufSt d L src iv g sem q qo ft fi t b ∗ RunSt d L src iv p ft fi O W n
        ∗ (BufSt d L src iv g sem q qo ft fi (t + 1) b -∗ RunSt d L src iv p ft fi O W (n + 16)
          -∗ wp frame (wpE (defs₀ (F := F)) 𝒱₀ (thrV d L) none) Set.univ jp Q))
      ⊢ wp frame (wpE (defs₀ (F := F)) 𝒱₀ (thrV d L) none) Set.univ
          (SparseCore.waitIndirectGather sem src g hsrc hdst >>= fun _ =>
            Scf.Loop.for lp hok 0#32 (fun k _ => poolRow L g (off k) (inb k) p (off' k) (inb' k)) >>= fun _ =>
              if h : cond = 1#1 then
                (SparseCore.enqueueIndirectGather rfl src g gathers_S1000000x16_S800x16 (offsAt iv offc (inbc h)) rfl sem hsrc' rfl (Or.inl rfl) >>= fun _ => jp)
              else jp) Q := by
  have h32 : 4 * t + b < 32 := by omega
  unfold BufSt RunSt
  rw [dif_pos h32]
  iintro ⟨#Hlv, Hf, ⟨%W', %hW', HO, %fp, %hfp, Hp⟩, HK⟩
  iapply (wp_take d L src iv g sem q qo ft fi O hO W' ⟨4 * t + b, h32⟩)
  isplitr; · iexact Hlv
  isplitl [Hf]; · iexact Hf
  isplitl [HO]; · iexact HO
  iintro Hgot HO
  unfold Got
  icases Hgot with ⟨%fg, %hfg, Hg, Hs, Hi, Hsem⟩
  iapply (wp_poolLoop d L g p lp hok htr off inb off' inb' n hoff hoff' fg fp)
  isplitl [Hg]; · iexact Hg
  isplitl [Hp]; · iexact Hp
  iintro %acc %fp' %hto Hg Hp
  rw [hfg] at hto
  have hup := PoolUpTo.chunk (by simp only; omega) hfp hto
  by_cases h7 : t < 7
  · have h32' : 4 * (t + 1) + b < 32 := by omega
    rw [dif_pos (hcond.mpr h7), dif_pos h32']
    iapply (wp_fetch d L src iv g sem q qo ft fi hN hI ⟨4 * (t + 1) + b, h32'⟩ offc (inbc (hcond.mpr h7))
      (by rw [hoffc]; congr 1; simp only; omega))
    isplitl [Hg Hs Hi Hsem]
    · unfold Idle
      isplitl [Hg]; · iexists fg; iexact Hg
      isplitl [Hs]; · iexact Hs
      isplitl [Hi]; · iexact Hi
      iexact Hsem
    iintro Hf
    iapply HK $$ Hf
    iexists (Insert.insert (SemLoc.dma sem, (default : HIx 1)) W')
    isplitr; · ipureintro; exact WOK.insert hW' _
    isplitl [HO]; · iexact HO
    iexists fp'
    isplitr; · ipureintro; exact hup
    iexact Hp
  · have h32' : ¬4 * (t + 1) + b < 32 := by omega
    rw [dif_neg (fun h => h7 (hcond.mp h)), dif_neg h32']
    iapply HK $$ [Hg Hs Hi Hsem]
    · unfold Idle
      isplitl [Hg]; · iexists fg; iexact Hg
      isplitl [Hs]; · iexact Hs
      isplitl [Hi]; · iexact Hi
      iexact Hsem
    iexists (Insert.insert (SemLoc.dma sem, (default : HIx 1)) W')
    isplitr; · ipureintro; exact WOK.insert hW' _
    isplitl [HO]; · iexact HO
    iexists fp'
    isplitr; · ipureintro; exact hup
    iexact Hp

end

end

/-- The refill conditions: all but the last trip. -/
theorem cond1_iff : ∀ t : Fin k0_t1_loop.trips, k0_cond1 t = 1#1 ↔ t.val < 7 := by decide +kernel
theorem cond2_iff : ∀ t : Fin k0_t1_loop.trips, k0_cond2 t = 1#1 ↔ t.val < 7 := by decide +kernel
theorem cond3_iff : ∀ t : Fin k0_t1_loop.trips, k0_cond3 t = 1#1 ↔ t.val < 7 := by decide +kernel
theorem cond4_iff : ∀ t : Fin k0_t1_loop.trips, k0_cond4 t = 1#1 ↔ t.val < 7 := by decide +kernel

end Cert.Proof.Ker

end
-- ==== Proof.Quad.lean ====
/-
  One trip of the loop over the chunks, four of them: the four buffers in turn.
-/
module

public import proofs.«01_k».proof.Proof.Buf

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- All of the table, as the streams address it. -/
abbrev tblK (arg2 : Memref sig .scVector .hbm S1000000x16 .f32) : Memref sig .scVector .hbm S1000000x16 .f32 :=
  arg2.slice (Rect.unit (s := S1000000x16) ![0, 0] S1000000x16.size inb_S1000000x16_S1000000x16_0_0) (fun _ => rfl)

section
variable (i : grid0.Coords) (arg2 : Memref sig .scVector .hbm S1000000x16 .f32) (harg2 : arg2.IsWhole) (arg3 : Memref sig .scVector .hbm S32x25600 .i32) (harg3 : arg3.IsWhole) (arg4 : Memref sig .scVector .hbm S16384x16 .f32) (harg4 : arg4.IsWhole) (arg5 : Memref sig .scVector .vmem S25600 .i32) (harg5 : arg5.IsWhole) (arg6 : Memref sig .scVector .vmem S800x16 .f32) (harg6 : arg6.IsWhole) (arg7 : Memref sig .scVector .vmem S800x16 .f32) (harg7 : arg7.IsWhole) (arg8 : Memref sig .scVector .vmem S800x16 .f32) (harg8 : arg8.IsWhole) (arg9 : Memref sig .scVector .vmem S800x16 .f32) (harg9 : arg9.IsWhole) (arg10 : Memref sig .scVector .vmem S512x16 .f32) (harg10 : arg10.IsWhole) (arg11 arg12 arg13 arg14 v13_r0 v13_r1 : DmaSems sig S_)
variable (d : Dev nD) (q qo : Fin 4 → PosShare TreeShare) (ft : Buf (Elt F) ((tblK arg2).view.loc (thrV d i))) (fi : Buf (Elt F) (arg5.view.loc (thrV d i)))
  (O : CellTallies nD τ sig (HIx 1)) (W : Waits sig (HIx 1))

set_option maxRecDepth 16384 in
set_option maxHeartbeats 2000000 in
/-- The first two buffers of a trip. -/
theorem wp_half (hO : ∀ g, O g none = 0)
    (hN6 : ∀ h : S1000000x16.Gathers 0 S800x16, ∑ j, (arg6.slice (S800x16.rowRect h.axis' j) (S800x16.stride_rowRect h.axis' j)).view.dmaCredit = arg6.view.dmaCredit)
    (hN7 : ∀ h : S1000000x16.Gathers 0 S800x16, ∑ j, (arg7.slice (S800x16.rowRect h.axis' j) (S800x16.stride_rowRect h.axis' j)).view.dmaCredit = arg7.view.dmaCredit)
    (hI : ∀ x, BitVec.toNat (arg5.view.read (Elt F) fi x) < 1000000) (t1 : Fin k0_t1_loop.trips) :
    iprop(levAts (K (F := F)).L (K (F := F)).lev ∗ BufSt d i (tblK arg2) arg5 arg6 arg11.sem (q 0) (qo 0) ft fi t1.val 0 ∗ BufSt d i (tblK arg2) arg5 arg7 arg12.sem (q 1) (qo 1) ft fi t1.val 1
        ∗ RunSt d i (tblK arg2) arg5 arg10 ft fi O W (64 * t1.val))
      ⊢ wp frame (wpE (defs₀ (F := F)) 𝒱₀ (thrV d i) none) Set.univ
          (k0_part29 i arg2 harg2 arg3 harg3 arg4 harg4 arg5 harg5 arg6 harg6 arg7 harg7 arg8 harg8 arg9 harg9 arg10 harg10 arg11 arg12 arg13 arg14 v13_r0 v13_r1 0#32 1#32 t1)
          fun _ => iprop(BufSt d i (tblK arg2) arg5 arg6 arg11.sem (q 0) (qo 0) ft fi (t1.val + 1) 0 ∗ BufSt d i (tblK arg2) arg5 arg7 arg12.sem (q 1) (qo 1) ft fi (t1.val + 1) 1
            ∗ RunSt d i (tblK arg2) arg5 arg10 ft fi O W (64 * t1.val + 16 + 16)) := by
  have ht : t1.val < 8 := lt_of_lt_of_le t1.isLt k0_t1_abs.2.1
  rw [k0_part29_eq_skeleton]
  unfold k0_part29_skel
  rw [t2_body_eq, t3_body_eq]
  iintro ⟨#Hlv, H0, H1, HR⟩
  iapply (wp_buf d i (tblK arg2) arg5 arg6 arg10 arg11.sem (q 0) (qo 0) ft fi O W hO hN6 hI t1.val ht 0 (by decide)
    k0_t2_loop k0_t2_ok (by decide +kernel) (fun k => k0_off3 k) (fun k => k0_off3_inb k) (fun k => k0_off4 t1 k) (fun k => k0_off4_inb t1 k)
    (64 * t1.val) (by omega) (fun k j => k0_off3_eq k j)
    (fun k => (k0_off4_eq t1 k).trans (congrArg (fun z : ℕ => ![z, 0]) (by omega))) (k0_cond1 t1) (cond1_iff t1)
    (k0_off5 t1) (fun h => k0_off5_inb t1 h) ((k0_off5_eq t1).trans (congrArg (fun z : ℕ => ![z]) (by omega))))
  isplitr; · iexact Hlv
  isplitl [H0]; · iexact H0
  isplitl [HR]; · iexact HR
  iintro H0 HR
  iapply (wp_buf d i (tblK arg2) arg5 arg7 arg10 arg12.sem (q 1) (qo 1) ft fi O W hO hN7 hI t1.val ht 1 (by decide)
    k0_t3_loop k0_t3_ok (by decide +kernel) (fun k => k0_off6 k) (fun k => k0_off6_inb k) (fun k => k0_off7 t1 k) (fun k => k0_off7_inb t1 k)
    (64 * t1.val + 16) (by omega) (fun k j => k0_off6_eq k j)
    (fun k => (k0_off7_eq t1 k).trans (congrArg (fun z : ℕ => ![z, 0]) (by omega))) (k0_cond2 t1) (cond2_iff t1)
    (k0_off8 t1) (fun h => k0_off8_inb t1 h) ((k0_off8_eq t1).trans (congrArg (fun z : ℕ => ![z]) (by omega))))
  isplitr; · iexact Hlv
  isplitl [H1]; · iexact H1
  isplitl [HR]; · iexact HR
  iintro H1 HR
  simp only [wp_pure]
  imodintro
  isplitl [H0]; · iexact H0
  isplitl [H1]; · iexact H1
  iexact HR

set_option maxRecDepth 16384 in
set_option maxHeartbeats 2000000 in
/-- One trip. -/
theorem wp_trip (hO : ∀ g, O g none = 0)
    (hN6 : ∀ h : S1000000x16.Gathers 0 S800x16, ∑ j, (arg6.slice (S800x16.rowRect h.axis' j) (S800x16.stride_rowRect h.axis' j)).view.dmaCredit = arg6.view.dmaCredit)
    (hN7 : ∀ h : S1000000x16.Gathers 0 S800x16, ∑ j, (arg7.slice (S800x16.rowRect h.axis' j) (S800x16.stride_rowRect h.axis' j)).view.dmaCredit = arg7.view.dmaCredit)
    (hN8 : ∀ h : S1000000x16.Gathers 0 S800x16, ∑ j, (arg8.slice (S800x16.rowRect h.axis' j) (S800x16.stride_rowRect h.axis' j)).view.dmaCredit = arg8.view.dmaCredit)
    (hN9 : ∀ h : S1000000x16.Gathers 0 S800x16, ∑ j, (arg9.slice (S800x16.rowRect h.axis' j) (S800x16.stride_rowRect h.axis' j)).view.dmaCredit = arg9.view.dmaCredit)
    (hI : ∀ x, BitVec.toNat (arg5.view.read (Elt F) fi x) < 1000000) (t1 : Fin k0_t1_loop.trips) (acc : BitVec 32) :
    iprop(levAts (K (F := F)).L (K (F := F)).lev ∗ BufSt d i (tblK arg2) arg5 arg6 arg11.sem (q 0) (qo 0) ft fi t1.val 0 ∗ BufSt d i (tblK arg2) arg5 arg7 arg12.sem (q 1) (qo 1) ft fi t1.val 1
        ∗ BufSt d i (tblK arg2) arg5 arg8 arg13.sem (q 2) (qo 2) ft fi t1.val 2 ∗ BufSt d i (tblK arg2) arg5 arg9 arg14.sem (q 3) (qo 3) ft fi t1.val 3
        ∗ RunSt d i (tblK arg2) arg5 arg10 ft fi O W (64 * t1.val))
      ⊢ wp frame (wpE (defs₀ (F := F)) 𝒱₀ (thrV d i) none) Set.univ
          (k0_t1_body i arg2 harg2 arg3 harg3 arg4 harg4 arg5 harg5 arg6 harg6 arg7 harg7 arg8 harg8 arg9 harg9 arg10 harg10 arg11 arg12 arg13 arg14 v13_r0 v13_r1 t1 acc)
          fun _ => iprop(BufSt d i (tblK arg2) arg5 arg6 arg11.sem (q 0) (qo 0) ft fi (t1.val + 1) 0 ∗ BufSt d i (tblK arg2) arg5 arg7 arg12.sem (q 1) (qo 1) ft fi (t1.val + 1) 1
            ∗ BufSt d i (tblK arg2) arg5 arg8 arg13.sem (q 2) (qo 2) ft fi (t1.val + 1) 2 ∗ BufSt d i (tblK arg2) arg5 arg9 arg14.sem (q 3) (qo 3) ft fi (t1.val + 1) 3
            ∗ RunSt d i (tblK arg2) arg5 arg10 ft fi O W (64 * (t1.val + 1))) := by
  have ht : t1.val < 8 := lt_of_lt_of_le t1.isLt k0_t1_abs.2.1
  unfold k0_t1_body
  rw [t4_body_eq, t5_body_eq]
  rw [wp_bind]
  iintro ⟨#Hlv, H0, H1, H2, H3, HR⟩
  iapply (wp_wand_r frame)
  isplitl [H0 H1 HR]
  · iapply (wp_half i arg2 harg2 arg3 harg3 arg4 harg4 arg5 harg5 arg6 harg6 arg7 harg7 arg8 harg8 arg9 harg9 arg10 harg10 arg11 arg12 arg13 arg14 v13_r0 v13_r1 d q qo ft fi O W hO hN6 hN7 hI t1)
    isplitr; · iexact Hlv
    isplitl [H0]; · iexact H0
    isplitl [H1]; · iexact H1
    iexact HR
  iintro %x ⟨H0, H1, HR⟩
  iapply (wp_buf d i (tblK arg2) arg5 arg8 arg10 arg13.sem (q 2) (qo 2) ft fi O W hO hN8 hI t1.val ht 2 (by decide)
    k0_t4_loop k0_t4_ok (by decide +kernel) (fun k => k0_off9 k) (fun k => k0_off9_inb k) (fun k => k0_off10 t1 k) (fun k => k0_off10_inb t1 k)
    (64 * t1.val + 16 + 16) (by omega) (fun k j => k0_off9_eq k j)
    (fun k => (k0_off10_eq t1 k).trans (congrArg (fun z : ℕ => ![z, 0]) (by omega))) (k0_cond3 t1) (cond3_iff t1)
    (k0_off11 t1) (fun h => k0_off11_inb t1 h) ((k0_off11_eq t1).trans (congrArg (fun z : ℕ => ![z]) (by omega))))
  isplitr; · iexact Hlv
  isplitl [H2]; · iexact H2
  isplitl [HR]; · iexact HR
  iintro H2 HR
  iapply (wp_buf d i (tblK arg2) arg5 arg9 arg10 arg14.sem (q 3) (qo 3) ft fi O W hO hN9 hI t1.val ht 3 (by decide)
    k0_t5_loop k0_t5_ok (by decide +kernel) (fun k => k0_off12 k) (fun k => k0_off12_inb k) (fun k => k0_off13 t1 k) (fun k => k0_off13_inb t1 k)
    (64 * t1.val + 16 + 16 + 16) (by omega) (fun k j => k0_off12_eq k j)
    (fun k => (k0_off13_eq t1 k).trans (congrArg (fun z : ℕ => ![z, 0]) (by omega))) (k0_cond4 t1) (cond4_iff t1)
    (k0_off14 t1) (fun h => k0_off14_inb t1 h) ((k0_off14_eq t1).trans (congrArg (fun z : ℕ => ![z]) (by omega))))
  isplitr; · iexact Hlv
  isplitl [H3]; · iexact H3
  isplitl [HR]; · iexact HR
  iintro H3 HR
  simp only [wp_pure]
  imodintro
  isplitl [H0]; · iexact H0
  isplitl [H1]; · iexact H1
  isplitl [H2]; · iexact H2
  isplitl [H3]; · iexact H3
  iexact HR

end

end Cert.Proof.Ker

end
-- ==== Proof.Mid.lean ====
/-
  The middle of a subcore's task: the first four chunks sent for, and the eight trips of the loop over the chunks.
-/
module

public import proofs.«01_k».proof.Proof.Quad

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section
variable (i : grid0.Coords) (arg2 : Memref sig .scVector .hbm S1000000x16 .f32) (harg2 : arg2.IsWhole) (arg3 : Memref sig .scVector .hbm S32x25600 .i32) (harg3 : arg3.IsWhole) (arg4 : Memref sig .scVector .hbm S16384x16 .f32) (harg4 : arg4.IsWhole) (arg5 : Memref sig .scVector .vmem S25600 .i32) (harg5 : arg5.IsWhole) (arg6 : Memref sig .scVector .vmem S800x16 .f32) (harg6 : arg6.IsWhole) (arg7 : Memref sig .scVector .vmem S800x16 .f32) (harg7 : arg7.IsWhole) (arg8 : Memref sig .scVector .vmem S800x16 .f32) (harg8 : arg8.IsWhole) (arg9 : Memref sig .scVector .vmem S800x16 .f32) (harg9 : arg9.IsWhole) (arg10 : Memref sig .scVector .vmem S512x16 .f32) (harg10 : arg10.IsWhole) (arg11 arg12 arg13 arg14 v13_r0 v13_r1 : DmaSems sig S_)

variable (d : Dev nD) (q qo : Fin 4 → PosShare TreeShare) (ft : Buf (Elt F) ((tblK arg2).view.loc (thrV d i))) (fi : Buf (Elt F) (arg5.view.loc (thrV d i)))
  (O : CellTallies nD τ sig (HIx 1)) (W : Waits sig (HIx 1))

set_option maxRecDepth 16384 in
set_option maxHeartbeats 2000000 in
theorem wp_mid (hO : ∀ g, O g none = 0)
    (hN6 : ∀ h : S1000000x16.Gathers 0 S800x16, ∑ j, (arg6.slice (S800x16.rowRect h.axis' j) (S800x16.stride_rowRect h.axis' j)).view.dmaCredit = arg6.view.dmaCredit)
    (hN7 : ∀ h : S1000000x16.Gathers 0 S800x16, ∑ j, (arg7.slice (S800x16.rowRect h.axis' j) (S800x16.stride_rowRect h.axis' j)).view.dmaCredit = arg7.view.dmaCredit)
    (hN8 : ∀ h : S1000000x16.Gathers 0 S800x16, ∑ j, (arg8.slice (S800x16.rowRect h.axis' j) (S800x16.stride_rowRect h.axis' j)).view.dmaCredit = arg8.view.dmaCredit)
    (hN9 : ∀ h : S1000000x16.Gathers 0 S800x16, ∑ j, (arg9.slice (S800x16.rowRect h.axis' j) (S800x16.stride_rowRect h.axis' j)).view.dmaCredit = arg9.view.dmaCredit)
    (hI : ∀ x, BitVec.toNat (arg5.view.read (Elt F) fi x) < 1000000) {β : Type} (jp : PV F i β) (Q : β → sProp 𝕄) :
    iprop(levAts (K (F := F)).L (K (F := F)).lev ∗ Idle d i (tblK arg2) arg5 arg6 arg11.sem (q 0) (qo 0) ft fi ∗ Idle d i (tblK arg2) arg5 arg7 arg12.sem (q 1) (qo 1) ft fi ∗ Idle d i (tblK arg2) arg5 arg8 arg13.sem (q 2) (qo 2) ft fi ∗ Idle d i (tblK arg2) arg5 arg9 arg14.sem (q 3) (qo 3) ft fi ∗ RunSt d i (tblK arg2) arg5 arg10 ft fi O W 0
        ∗ (Idle d i (tblK arg2) arg5 arg6 arg11.sem (q 0) (qo 0) ft fi -∗ Idle d i (tblK arg2) arg5 arg7 arg12.sem (q 1) (qo 1) ft fi -∗ Idle d i (tblK arg2) arg5 arg8 arg13.sem (q 2) (qo 2) ft fi -∗ Idle d i (tblK arg2) arg5 arg9 arg14.sem (q 3) (qo 3) ft fi -∗ RunSt d i (tblK arg2) arg5 arg10 ft fi O W 512
            -∗ wp frame (wpE (defs₀ (F := F)) 𝒱₀ (thrV d i) none) Set.univ jp Q))
      ⊢ wp frame (wpE (defs₀ (F := F)) 𝒱₀ (thrV d i) none) Set.univ
          (SparseCore.enqueueIndirectGather rfl (tblK arg2) arg6 gathers_S1000000x16_S800x16 (offsAt arg5 ![0] inb_S25600_S800_0) rfl arg11.sem (View.wordExact_bits rfl) rfl (Or.inl rfl) >>= fun _ =>
            SparseCore.enqueueIndirectGather rfl (tblK arg2) arg7 gathers_S1000000x16_S800x16 (offsAt arg5 ![800] inb_S25600_S800_800) rfl arg12.sem (View.wordExact_bits rfl) rfl (Or.inl rfl) >>= fun _ =>
            SparseCore.enqueueIndirectGather rfl (tblK arg2) arg8 gathers_S1000000x16_S800x16 (offsAt arg5 ![1600] inb_S25600_S800_1600) rfl arg13.sem (View.wordExact_bits rfl) rfl (Or.inl rfl) >>= fun _ =>
            SparseCore.enqueueIndirectGather rfl (tblK arg2) arg9 gathers_S1000000x16_S800x16 (offsAt arg5 ![2400] inb_S25600_S800_2400) rfl arg14.sem (View.wordExact_bits rfl) rfl (Or.inl rfl) >>= fun _ =>
            Scf.Loop.for k0_t1_loop k0_t1_ok 0#32 (k0_t1_body i arg2 harg2 arg3 harg3 arg4 harg4 arg5 harg5 arg6 harg6 arg7 harg7 arg8 harg8 arg9 harg9 arg10 harg10 arg11 arg12 arg13 arg14 v13_r0 v13_r1) >>= fun _ => jp) Q := by
  let I : ℕ → BitVec 32 → sProp 𝕄 := fun t _ => iprop(levAts (K (F := F)).L (K (F := F)).lev ∗ BufSt d i (tblK arg2) arg5 arg6 arg11.sem (q 0) (qo 0) ft fi t 0
    ∗ BufSt d i (tblK arg2) arg5 arg7 arg12.sem (q 1) (qo 1) ft fi t 1
    ∗ BufSt d i (tblK arg2) arg5 arg8 arg13.sem (q 2) (qo 2) ft fi t 2
    ∗ BufSt d i (tblK arg2) arg5 arg9 arg14.sem (q 3) (qo 3) ft fi t 3
    ∗ RunSt d i (tblK arg2) arg5 arg10 ft fi O W (64 * t))
  have hbody : ∀ (k : Fin k0_t1_loop.trips) (acc : BitVec 32), I k.val acc ⊢ wp frame (wpE (defs₀ (F := F)) 𝒱₀ (thrV d i) none) Set.univ
      (k0_t1_body i arg2 harg2 arg3 harg3 arg4 harg4 arg5 harg5 arg6 harg6 arg7 harg7 arg8 harg8 arg9 harg9 arg10 harg10 arg11 arg12 arg13 arg14 v13_r0 v13_r1 k acc) (I (k.val + 1)) := by
    intro k acc
    iintro ⟨#Hlv, H⟩
    iapply (wp_wand_r frame)
    isplitl [H]
    · iapply (wp_trip i arg2 harg2 arg3 harg3 arg4 harg4 arg5 harg5 arg6 harg6 arg7 harg7 arg8 harg8 arg9 harg9 arg10 harg10 arg11 arg12 arg13 arg14 v13_r0 v13_r1 d q qo ft fi O W hO hN6 hN7 hN8 hN9 hI k acc)
      isplitr; · iexact Hlv
      iexact H
    iintro %x H
    isplitr; · iexact Hlv
    iexact H
  have hend : ∀ acc : BitVec 32, I 8 acc ⊢ iprop(Idle d i (tblK arg2) arg5 arg6 arg11.sem (q 0) (qo 0) ft fi ∗ Idle d i (tblK arg2) arg5 arg7 arg12.sem (q 1) (qo 1) ft fi ∗ Idle d i (tblK arg2) arg5 arg8 arg13.sem (q 2) (qo 2) ft fi ∗ Idle d i (tblK arg2) arg5 arg9 arg14.sem (q 3) (qo 3) ft fi ∗ RunSt d i (tblK arg2) arg5 arg10 ft fi O W 512) := by
    intro acc
    refine sep_elim_right.trans (Entails.of_eq ?_)
    unfold BufSt
    rw [dif_neg (by decide), dif_neg (by decide), dif_neg (by decide), dif_neg (by decide)]
  iintro ⟨#Hlv, H0, H1, H2, H3, HR, HQ⟩
  iapply (wp_fetch d i (tblK arg2) arg5 arg6 arg11.sem (q 0) (qo 0) ft fi hN6 hI ⟨4 * 0 + 0, by decide⟩ ![0] inb_S25600_S800_0 rfl)
  isplitl [H0]; · iexact H0
  iintro H0
  iapply (wp_fetch d i (tblK arg2) arg5 arg7 arg12.sem (q 1) (qo 1) ft fi hN7 hI ⟨4 * 0 + 1, by decide⟩ ![800] inb_S25600_S800_800 rfl)
  isplitl [H1]; · iexact H1
  iintro H1
  iapply (wp_fetch d i (tblK arg2) arg5 arg8 arg13.sem (q 2) (qo 2) ft fi hN8 hI ⟨4 * 0 + 2, by decide⟩ ![1600] inb_S25600_S800_1600 rfl)
  isplitl [H2]; · iexact H2
  iintro H2
  iapply (wp_fetch d i (tblK arg2) arg5 arg9 arg14.sem (q 3) (qo 3) ft fi hN9 hI ⟨4 * 0 + 3, by decide⟩ ![2400] inb_S25600_S800_2400 rfl)
  isplitl [H3]; · iexact H3
  iintro H3
  iapply (Scf.wp_for_bind frame (wpE (defs₀ (F := F)) 𝒱₀ (thrV d i) none) Set.univ k0_t1_loop.lb k0_t1_loop.ub k0_t1_loop.st k0_t1_ok (0#32 : BitVec 32) _ I hbody) $$ [H0 H1 H2 H3 HR]
  · isplitr; · iexact Hlv
    isplitl [H0]; · unfold BufSt; rw [dif_pos (by decide)]; iexact H0
    isplitl [H1]; · unfold BufSt; rw [dif_pos (by decide)]; iexact H1
    isplitl [H2]; · unfold BufSt; rw [dif_pos (by decide)]; iexact H2
    isplitl [H3]; · unfold BufSt; rw [dif_pos (by decide)]; iexact H3
    iexact HR
  have e : Scf.trips k0_t1_loop.lb k0_t1_loop.ub k0_t1_loop.st = 8 := by decide +kernel
  rw [e]
  iintro %acc HI
  ihave H := (hend acc) $$ HI
  icases H with ⟨H0, H1, H2, H3, HR⟩
  iapply HQ $$ H0 H1 H2 H3 HR

end

end Cert.Proof.Ker

end
-- ==== Proof.Parts.lean ====
/-
  What a vector subcore is handed and hands back: its row of the list, its share of the table, its block of the pooled
  array; and the pooled array as a function of the table and the list.
-/
module

public import proofs.«01_k».proof.Proof.Mid

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Shares: a share halved, over and over -/

/-- The piece of `q` that the binary digits of `i` lead to, lowest digit first. -/
def piece : ℕ → PosShare TreeShare → ℕ → PosShare TreeShare
  | 0, q, _ => q
  | n + 1, q, i => piece n (if i % 2 = 0 then q.left else q.right) (i / 2)

theorem lt_two_mul {n i : ℕ} (h : i < 2 ^ (n + 1)) : i < 2 * 2 ^ n := by rw [Nat.pow_succ, Nat.mul_comm] at h; exact h

/-- A number below `2 ^ (n + 1)` is its lowest digit and the number the others make. -/
def digits (n : ℕ) : Fin 2 × Fin (2 ^ n) ≃ Fin (2 ^ (n + 1)) where
  toFun p := ⟨2 * p.2.val + p.1.val, by have := p.2.isLt; have := p.1.isLt; rw [Nat.pow_succ]; omega⟩
  invFun i := (⟨i.val % 2, Nat.mod_lt _ (by decide)⟩, ⟨i.val / 2, Nat.div_lt_of_lt_mul (lt_two_mul i.isLt)⟩)
  left_inv := fun ⟨b, i⟩ => Prod.ext (Fin.ext (show (2 * i.val + b.val) % 2 = b.val by omega)) (Fin.ext (show (2 * i.val + b.val) / 2 = i.val by omega))
  right_inv := fun i => Fin.ext (show 2 * (i.val / 2) + i.val % 2 = i.val by omega)

theorem piece_digits (n : ℕ) (q : PosShare TreeShare) (b : Fin 2) (i : Fin (2 ^ n)) :
    piece (n + 1) q (digits n (b, i)).val = piece n (if b.val = 0 then q.left else q.right) i.val := by
  have e : (digits n (b, i)).val = 2 * i.val + b.val := rfl
  rw [e]
  show piece n (if (2 * i.val + b.val) % 2 = 0 then q.left else q.right) ((2 * i.val + b.val) / 2) = _
  rw [show (2 * i.val + b.val) % 2 = b.val by omega, show (2 * i.val + b.val) / 2 = i.val by omega]

/-- What is held at a share is held at all its pieces. -/
theorem pointsTo_pieces {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{piece n q i.val} f
  | 0, q => (bigSep_univ_of_subsingleton (0 : Fin 1) (Φ := fun i : Fin (2 ^ 0) => (ℓ ↦[I]{piece 0 q i.val} f : sProp 𝕄))).symm
  | n + 1, q => by
    rw [bigSep_univ_equiv (digits n), bigSep_univ_prod, bigSep_univ_two]
    simp only [piece_digits]
    rw [← pointsTo_pieces I f n, ← pointsTo_pieces I f n]
    exact BI.Entails.antisymm (pointsTo_share (PosShare.mem_left_op_right q)).1 (pointsTo_share (PosShare.mem_left_op_right q)).2

/-! ## The buffers of the call -/

abbrev tabLoc (d : Dev nD) : Loc nD τ sig := (SparseCore.T d).loc main_arg9
abbrev idxLoc (d : Dev nD) : Loc nD τ sig := (SparseCore.T d).loc main_v0
abbrev outLoc (d : Dev nD) : Loc nD τ sig := (SparseCore.T d).loc main_v1

abbrev tV : Memref sig .scVector .hbm S1000000x16 .f32 := Memref.whole main_arg9_scv
abbrev iV : Memref sig .scVector .hbm S32x25600 .i32 := Memref.whole main_v0_scv
abbrev oV : Memref sig .scVector .hbm S16384x16 .f32 := Memref.whole main_v1_scv

theorem idiv : 32 ∣ S32x25600.size 0 := ⟨1, rfl⟩
theorem odiv : 32 ∣ S16384x16.size 0 := ⟨512, rfl⟩
abbrev iSet (w : Fin 32) : Finset S32x25600.Idx := (Rect.part (s := S32x25600) (a₀ := 0) idiv w).set
abbrev oSet (w : Fin 32) : Finset S16384x16.Idx := (Rect.part (s := S16384x16) (a₀ := 0) odiv w).set

/-- Row `w` of the list. -/
def listOf (I : Vec F S32x25600 .i32) (w : Fin 32) : Vec F S25600 .i32 := fun y => I (ix2 (n0 := 32) (n1 := 25600) w (y 0))

/-- The pooled array: row `512 w + r` is pooled row `r` of row `w` of the list. -/
def poolBuf (T : Vec F S1000000x16 .f32) (I : Vec F S32x25600 .i32) : Vec F S16384x16 .f32 := fun x =>
  rowVal T (listOf I ⟨(x 0).val / 512, by have := (x 0).isLt; simp at this; omega⟩) ⟨(x 0).val % 512, by omega⟩ (ix1 (n0 := 16) (x 1))

/-- A subcore's number. -/
def wid (L : grid0.Coords) : Fin 32 := ⟨2 * (L 1).val + (L 0).val, by have := (L 1).isLt; have := (L 0).isLt; simp at *; omega⟩

section
variable (L : grid0.Coords)

abbrev irowK (L : grid0.Coords) : Rect S32x25600 := Rect.unit (s := S32x25600) (k0_off1 L) S1x25600.size (k0_off1_inb L)
abbrev orowK (L : grid0.Coords) : Rect S16384x16 := Rect.unit (s := S16384x16) (k0_off15 L) S512x16.size (k0_off15_inb L)
/-- The subcore's row of the list and its block of the pooled array, as it addresses them. -/
abbrev iRowK (L : grid0.Coords) : Memref sig .scVector .hbm S25600 .i32 := ((iV).slice (irowK L) (fun _ => rfl)).squeeze S25600 squeezes_S1x25600_S25600
abbrev oRowK (L : grid0.Coords) : Memref sig .scVector .hbm S512x16 .f32 := (oV).slice (orowK L) (fun _ => rfl)

theorem irowK_eq : irowK L = Rect.part (s := S32x25600) (a₀ := 0) idiv (wid L) := by
  unfold irowK Rect.part Rect.block
  congr 1 <;> funext a
  · rw [k0_off1_eq]
    match a with
    | 0 => simp [Shape.partIx, Shape.partSize, wid]
    | 1 => simp [Shape.partIx, Shape.partSize]
  · match a with
    | 0 => simp [Shape.partSize]
    | 1 => simp [Shape.partSize]

theorem orowK_eq : orowK L = Rect.part (s := S16384x16) (a₀ := 0) odiv (wid L) := by
  unfold orowK Rect.part Rect.block
  congr 1 <;> funext a
  · rw [k0_off15_eq]
    match a with
    | 0 => simp [Shape.partIx, Shape.partSize, wid]; omega
    | 1 => simp [Shape.partIx, Shape.partSize]
  · match a with
    | 0 => simp [Shape.partSize]
    | 1 => simp [Shape.partSize]

theorem set_iRowK : (iRowK L).view.set = iSet (wid L) := by
  show (((iV).view.slice (irowK L)).reshape S25600 squeezes_S1x25600_S25600.numel_eq).set = _
  rw [View.set_reshape, View.set_slice]
  exact Finset.map_refl.trans (by rw [irowK_eq])
theorem set_oRowK : (oRowK L).view.set = oSet (wid L) := by
  show ((oV).view.slice (orowK L)).set = _
  rw [View.set_slice]
  exact Finset.map_refl.trans (by rw [orowK_eq])

/-- What is fetched is the subcore's row of the list. -/
theorem read_iRowK (d : Dev nD) (f : Buf (Elt F) (idxLoc d)) : (iRowK L).view.read (Elt F) f = listOf f (wid L) := by
  funext y
  show shapeCast S25600 ((iV).view.readAt (Elt F) (irowK L).toLoadRect f) squeezes_S1x25600_S25600.numel_eq y = _
  rw [shapeCast_apply _ _ y (ix2 (n0 := 1) (n1 := 25600) 0 (y 0)) (by
    rw [Shape.rowMajor_val_one, Shape.rowMajor_val_two]; simp [ix2])]
  unfold listOf
  show f ((irowK L).emb _) = _
  congr 1
  funext a
  refine Fin.ext ?_
  rw [Rect.emb_apply]
  show k0_off1 L a + 1 * _ = _
  rw [k0_off1_eq]
  match a with
  | 0 => simp [ix2, wid]
  | 1 => simp [ix2]

/-- The table the streams read is the table. -/
theorem read_tblK (d : Dev nD) (f : Buf (Elt F) (tabLoc d)) : (tblK tV).view.read (Elt F) f = f := by
  funext y
  show f ((Rect.unit (s := S1000000x16) ![0, 0] S1000000x16.size inb_S1000000x16_S1000000x16_0_0).emb y) = _
  congr 1
  funext a
  refine Fin.ext ?_
  rw [Rect.emb_apply]
  match a with
  | 0 => simp
  | 1 => simp

/-- The block written out holds the pooled rows. -/
theorem write_oRowK (d : Dev nD) (T : Vec F S1000000x16 .f32) (I : Vec F S32x25600 .i32) (f : Buf (Elt F) (outLoc d)) (P : Vec F S512x16 .f32)
    (hP : PoolUpTo T (listOf I (wid L)) 512 P) :
    ∀ x ∈ (oRowK L).view.set, (oRowK L).view.write (Elt F) f P Finset.univ x = poolBuf T I x := by
  intro x hx
  obtain ⟨y, -, rfl⟩ := Finset.mem_map.mp hx
  rw [View.write_emb_of_mem _ _ (Finset.mem_univ y)]
  have hy : y = ix2 (n0 := 512) (n1 := 16) (y 0) (y 1) := by funext a; match a with | 0 => rfl | 1 => rfl
  refine (congrArg P hy).trans ((hP (y 0) (y 1) (y 0).isLt).trans ?_)
  have h0 : (((oRowK L).view.emb y) 0).val = 512 * (wid L).val + (y 0).val := by
    show ((orowK L).emb y 0).val = _
    rw [Rect.emb_apply]
    show k0_off15 L 0 + 1 * _ = _
    rw [k0_off15_eq]
    simp [wid]; omega
  have h1 : ((oRowK L).view.emb y) 1 = y 1 := by
    refine Fin.ext ?_
    show ((orowK L).emb y 1).val = _
    rw [Rect.emb_apply]
    show k0_off15 L 1 + 1 * _ = _
    rw [k0_off15_eq]
    simp
  have hb : (y 0).val < 512 := (y 0).isLt
  unfold poolBuf
  have e1 : (⟨(((oRowK L).view.emb y) 0).val / 512, by rw [h0]; have := (wid L).isLt; omega⟩ : Fin 32) = wid L := Fin.ext (by simp only [h0]; omega)
  have e2 : (⟨(((oRowK L).view.emb y) 0).val % 512, by omega⟩ : Fin 512) = y 0 := Fin.ext (by simp only [h0]; omega)
  exact (congr (congr (congrArg (fun w r l => rowVal T (listOf I w) r (ix1 (n0 := 16) l)) e1) e2) h1).symm

end

/-! ## What passes at the call -/

section
variable (tb : (d : Dev nD) → Buf (Elt F) (tabLoc d)) (ib : (d : Dev nD) → Buf (Elt F) (idxLoc d)) (ob : (d : Dev nD) → Buf (Elt F) (outLoc d))

/-- A subcore's part of the operands, the pooled array at `o`. -/
abbrev part (d : Dev nD) (w : Fin 32) (o : Buf (Elt F) (outLoc d)) : sProp 𝕄 :=
  iprop((idxLoc d ↦[iSet w]{fullShare} ib d) ∗ (tabLoc d ↦{piece 5 fullShare w.val} tb d) ∗ (outLoc d ↦[oSet w]{fullShare} o))

/-- The three operands are the subcores' parts. -/
theorem parts_eq (d : Dev nD) (o : Buf (Elt F) (outLoc d)) :
    (bigSep Finset.univ fun w : Fin 32 => part tb ib d w o)
      = iprop((idxLoc d ↦{fullShare} ib d) ∗ (tabLoc d ↦{fullShare} tb d) ∗ (outLoc d ↦{fullShare} o)) := by
  unfold part
  rw [bigSep_sep', bigSep_sep']
  congr 1
  · rw [← pointsTo_biUnion Finset.univ (ℓ := idxLoc d) iSet (fun i _ j _ h => Rect.part_disjoint idiv h)]
    exact congrArg (fun S => (idxLoc d ↦[S]{fullShare} ib d : sProp 𝕄)) (Rect.biUnion_part idiv)
  congr 1
  · exact (pointsTo_pieces Finset.univ (tb d) 5 fullShare).symm
  · rw [← pointsTo_biUnion Finset.univ (ℓ := outLoc d) oSet (fun i _ j _ h => Rect.part_disjoint odiv h)]
    exact congrArg (fun S => (outLoc d ↦[S]{fullShare} o : sProp 𝕄)) (Rect.biUnion_part odiv)

end

end Cert.Proof.Ker

end
-- ==== Proof.Tile.lean ====
/-
  A vector subcore's task: its row of the list fetched, the chunks fetched and pooled, its block written out.
-/
module

public import proofs.«01_k».proof.Proof.Parts

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

abbrev sV : Memref sig .scVector .vmem S25600 .i32 := Memref.whole cc0_scratch0
abbrev pV : Memref sig .scVector .vmem S512x16 .f32 := Memref.whole cc0_scratch5

section
variable (d : Dev nD) (L : grid0.Coords) (O : CellTallies nD τ sig (HIx 1)) (W : Waits sig (HIx 1))

set_option maxHeartbeats 1000000 in
/-- The list's row fetched. -/
theorem wp_listIn (hO : ∀ g, O g none = 0) (I : Buf (Elt F) (idxLoc d)) (fs : Buf (Elt F) ((sV).view.loc (thrV d L)))
    {h1 : (iRowK L).view.WordExact} {h2 : (sV).view.WordExact} {h3} {h4 : (iRowK L).view.WordExact} {h5 : (sV).view.WordExact} :
    iprop(levAts (K (F := F)).L (K (F := F)).lev ∗ ((iRowK L).view.loc (thrV d L) ↦[(iRowK L).view.set]{fullShare} I)
        ∗ ((sV).view.loc (thrV d L) ↦{fullShare} fs) ∗ semVal (thrV d L, .dma cc0_scoped0.sem) 0 ∗ owes (thrV d L) O W)
      ⊢ wp frame (wpE (defs₀ (F := F)) 𝒱₀ (thrV d L) none) Set.univ
          ((Prog.lift (.enqueueDma (iRowK L) (.here sV) (.dma cc0_scoped0.sem) h1 h2 h3) : PV F L PUnit) >>= fun _ =>
            (Prog.lift (.waitDma2 cc0_scoped0.sem (iRowK L) sV h4 h5) : PV F L PUnit))
          fun _ => (iprop(((iRowK L).view.loc (thrV d L) ↦[(iRowK L).view.set]{fullShare} I)
            ∗ (∃ fi : Buf (Elt F) ((sV).view.loc (thrV d L)), ⌜(sV).view.read (Elt F) fi = listOf I (wid L)⌝ ∗ ((sV).view.loc (thrV d L) ↦{fullShare} fi))
            ∗ semVal (thrV d L, .dma cc0_scoped0.sem) 0 ∗ owes (thrV d L) O (insert (SemLoc.dma cc0_scoped0.sem, (default : HIx 1)) W)) : sProp 𝕄) := by
  iintro ⟨#Hlv, Hi, Hs, HsemA, HO⟩
  ihave Hmw := (show levAts (K (F := F)).L (K (F := F)).lev ⊢ Transfers.MayWaits (thrV d L) (default : HIx 1) O from
    (K (F := F)).mayWaits_none (thr := thrV d L) hO) $$ Hlv
  sl_exec
  sl_step
  isplitl [Hi]; · iexact Hi
  isplitl [Hs]
  · iexists _
    isplitr; swap; · iexact Hs
    ipureintro
    exact (View.read_write_univ _ _).trans (read_iRowK L d I)
  isplitl [HsemA]; · iexact HsemA
  iexact HO

set_option maxHeartbeats 1000000 in
/-- The block written out. -/
theorem wp_blockOut (hO : ∀ g, O g none = 0) (T : Vec F S1000000x16 .f32) (I : Vec F S32x25600 .i32) (o : Buf (Elt F) (outLoc d))
    (fp : Buf (Elt F) ((pV).view.loc (thrV d L))) (hP : PoolUpTo T (listOf I (wid L)) 512 ((pV).view.read (Elt F) fp))
    {h1 : (pV).view.WordExact} {h2 : (oRowK L).view.WordExact} {h3} {h4 : (pV).view.WordExact} {h5 : (oRowK L).view.WordExact} :
    iprop(levAts (K (F := F)).L (K (F := F)).lev ∗ ((oRowK L).view.loc (thrV d L) ↦[(oRowK L).view.set]{fullShare} o)
        ∗ ((pV).view.loc (thrV d L) ↦{fullShare} fp) ∗ semVal (thrV d L, .dma cc0_scoped1.sem) 0 ∗ owes (thrV d L) O W)
      ⊢ wp frame (wpE (defs₀ (F := F)) 𝒱₀ (thrV d L) none) Set.univ
          ((Prog.lift (.enqueueDma pV (.here (oRowK L)) (.dma cc0_scoped1.sem) h1 h2 h3) : PV F L PUnit) >>= fun _ =>
            (Prog.lift (.waitDma2 cc0_scoped1.sem pV (oRowK L) h4 h5) : PV F L PUnit))
          fun _ => (iprop((∃ f : Buf (Elt F) ((oRowK L).view.loc (thrV d L)), ⌜∀ x ∈ (oRowK L).view.set, f x = poolBuf T I x⌝
              ∗ ((oRowK L).view.loc (thrV d L) ↦[(oRowK L).view.set]{fullShare} f))
            ∗ ((pV).view.loc (thrV d L) ↦{fullShare} fp)
            ∗ semVal (thrV d L, .dma cc0_scoped1.sem) 0 ∗ owes (thrV d L) O (insert (SemLoc.dma cc0_scoped1.sem, (default : HIx 1)) W)) : sProp 𝕄) := by
  iintro ⟨#Hlv, Hi, Hs, HsemA, HO⟩
  ihave Hmw := (show levAts (K (F := F)).L (K (F := F)).lev ⊢ Transfers.MayWaits (thrV d L) (default : HIx 1) O from
    (K (F := F)).mayWaits_none (thr := thrV d L) hO) $$ Hlv
  sl_exec
  sl_step
  isplitl [Hi]
  · iexists _
    isplitr; swap; · iexact Hi
    ipureintro
    rw [← View.write_univ_eq_writes_whole _ _ []]
    unfold wp_blockOut.sl.dma0
    exact write_oRowK L d T I o ((pV).view.read (Elt F) fp) hP
  isplitl [Hs]; · iexact Hs
  isplitl [HsemA]; · iexact HsemA
  iexact HO

end

end Cert.Proof.Ker

end
-- ==== Proof.TaskEq.lean ====
/-
  A vector subcore's task as the transfers and the loop it is made of.
-/
module

public import proofs.«01_k».proof.Proof.Tile

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

section
variable (L : grid0.Coords)

set_option maxRecDepth 65536 in
/-- The task, its two plain transfers each in one piece. -/
theorem task_eq : cc0_gather_pool (F := F) L tV (Memref.isWhole_whole _) iV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1
    = ((((Prog.lift (.enqueueDma (iRowK L) (.here sV) (.dma cc0_scoped0.sem) ((View.wordExact_bits rfl).reshape _ _) (Memref.isWhole_whole cc0_scratch0).wordExact ⟨Or.inl rfl, trivial⟩) : PV F L PUnit) >>= fun _ =>
          (Prog.lift (.waitDma2 cc0_scoped0.sem (iRowK L) sV ((View.wordExact_bits rfl).reshape _ _) (Memref.isWhole_whole cc0_scratch0).wordExact) : PV F L PUnit)) >>= fun _ =>
        SparseCore.enqueueIndirectGather rfl (tblK tV) (Memref.whole cc0_scratch1 : Memref sig .scVector .vmem S800x16 .f32) gathers_S1000000x16_S800x16 (offsAt sV ![0] inb_S25600_S800_0) rfl cc0_scratch6.sem (View.wordExact_bits rfl) rfl (Or.inl rfl) >>= fun _ =>
        SparseCore.enqueueIndirectGather rfl (tblK tV) (Memref.whole cc0_scratch2 : Memref sig .scVector .vmem S800x16 .f32) gathers_S1000000x16_S800x16 (offsAt sV ![800] inb_S25600_S800_800) rfl cc0_scratch7.sem (View.wordExact_bits rfl) rfl (Or.inl rfl) >>= fun _ =>
        SparseCore.enqueueIndirectGather rfl (tblK tV) (Memref.whole cc0_scratch3 : Memref sig .scVector .vmem S800x16 .f32) gathers_S1000000x16_S800x16 (offsAt sV ![1600] inb_S25600_S800_1600) rfl cc0_scratch8.sem (View.wordExact_bits rfl) rfl (Or.inl rfl) >>= fun _ =>
        SparseCore.enqueueIndirectGather rfl (tblK tV) (Memref.whole cc0_scratch4 : Memref sig .scVector .vmem S800x16 .f32) gathers_S1000000x16_S800x16 (offsAt sV ![2400] inb_S25600_S800_2400) rfl cc0_scratch9.sem (View.wordExact_bits rfl) rfl (Or.inl rfl) >>= fun _ =>
        Scf.Loop.for k0_t1_loop k0_t1_ok 0#32 (k0_t1_body L tV (Memref.isWhole_whole _) iV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1) >>= fun _ =>
        ((Prog.lift (.enqueueDma pV (.here (oRowK L)) (.dma cc0_scoped1.sem) (Memref.isWhole_whole cc0_scratch5).wordExact (View.wordExact_bits rfl) ⟨Or.inl rfl, trivial⟩) : PV F L PUnit) >>= fun _ =>
          (Prog.lift (.waitDma2 cc0_scoped1.sem pV (oRowK L) (Memref.isWhole_whole cc0_scratch5).wordExact (View.wordExact_bits rfl)) : PV F L PUnit))) : PV F L PUnit) := by
  rw [cc0_gather_pool_eq_skeleton]
  unfold cc0_gather_pool_skel
  rw [k0_part30_eq_skeleton]
  unfold k0_part30_skel
  simp only [bind_assoc, pure_bind]
  rfl

end

end Cert.Proof.Ker

end
-- ==== Proof.Owned.lean ====
/-
  A vector subcore's task, from what it is handed to what it hands back.
-/
module

public import proofs.«01_k».proof.Proof.TaskEq

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What a subcore owns -/

/-- Some members of a family taken out of it one by one. -/
theorem bigSep_take {α β : Type} [DecidableEq α] (f : β → α) (Φ : α → sProp 𝕄) : ∀ (l : List β) (s : Finset α), (l.map f).Nodup → (∀ b ∈ l, f b ∈ s) →
    bigSep s Φ = l.foldr (fun b R => iprop(Φ (f b) ∗ R)) (bigSep (s \ (l.map f).toFinset) Φ)
  | [], s, _, _ => by simp
  | b :: l, s, hn, hm => by
    have hb : f b ∈ s := hm b (List.mem_cons_self ..)
    have hn' := List.nodup_cons.mp hn
    rw [SparseCore.bigSep_erase' hb, bigSep_take f Φ l (s.erase (f b)) hn'.2 (fun c hc => Finset.mem_erase.mpr ⟨fun e =>
      hn'.1 (e ▸ List.mem_map_of_mem hc), hm c (List.mem_cons_of_mem _ hc)⟩)]
    have e : s.erase (f b) \ (l.map f).toFinset = s \ ((b :: l).map f).toFinset := by
      ext x
      simp only [Finset.mem_sdiff, Finset.mem_erase, List.map_cons, List.toFinset_cons, Finset.mem_insert]
      tauto
    rw [e]
    rfl

section
variable (d : Dev nD) (L : grid0.Coords)

/-- The counters of the task. -/
abbrev taskSems : List (DmaSem sig) := [cc0_scratch6.sem, cc0_scratch7.sem, cc0_scratch8.sem, cc0_scratch9.sem, cc0_scoped0.sem, cc0_scoped1.sem]
/-- The buffers of the task. -/
abbrev taskBufs : List (Ref sig .scVector) := [cc0_scratch0, cc0_scratch1, cc0_scratch2, cc0_scratch3, cc0_scratch4, cc0_scratch5]

/-- The other counters. -/
def otherSems : sProp 𝕄 := bigSep (ownCells (thrV d L) \ (taskSems.map fun s => ((thrV d L, .dma s) : GSem nD τ sig)).toFinset) fun g => semVal g 0
/-- The other buffers. -/
def otherBufs : sProp 𝕄 := bigSep (ownRefs (τ := τ) (.scVector (cV L) (jV L)) \ (taskBufs.map fun b => (Proc.scVector (cV L) (jV L)).devRef b).toFinset)
  fun b => iprop(∃ f, ((d, b) : Loc nD τ sig) ↦{fullShare} f)

theorem ownSems0_V : (ownSems0 (thrV d L) : sProp 𝕄)
    = taskSems.foldr (fun s R => iprop(semVal (thrV d L, .dma s) 0 ∗ R)) (otherSems d L) := by
  unfold SparseCore.Cfg.ownSems0
  refine bigSep_take (fun s => ((thrV d L, .dma s) : GSem nD τ sig)) (fun g => semVal g 0) taskSems (ownCells (thrV d L)) ?_ ?_
  · exact List.Nodup.map (fun a b e => SemLoc.dma.inj (Prod.mk.inj e).2) (by decide)
  · have h : ∀ s ∈ taskSems, (SemLoc.dma s : SemLoc sig).isScoped .scVector = true := by decide
    exact fun s hs => mem_ownCells.mpr ⟨rfl, h s hs⟩

theorem ownBufs_V : (ownBufs (thrV d L) : sProp 𝕄)
    = taskBufs.foldr (fun b R => iprop((∃ f, (thrV d L).loc b ↦{fullShare} f) ∗ R)) (otherBufs d L) := by
  unfold SparseCore.Cfg.ownBufs
  refine bigSep_take (fun b => (Proc.scVector (cV L) (jV L)).devRef b) (fun b => iprop(∃ f, ((d, b) : Loc nD τ sig) ↦{fullShare} f)) taskBufs
    (ownRefs (τ := τ) (.scVector (cV L) (jV L))) ?_ ?_
  · have hn : taskBufs.Nodup := by decide
    exact List.Nodup.map (fun a b e => Proc.devRef_injective _ e) hn
  · have h : ∀ b ∈ taskBufs, ((Proc.scVector (cV L) (jV L)).devRef b).owner = .proc (Proc.scVector (cV L) (jV L)) := by
      intro b hb
      simp only [taskBufs, List.mem_cons, List.not_mem_nil, _root_.or_false] at hb
      rcases hb with rfl | rfl | rfl | rfl | rfl | rfl <;> rfl
    exact fun b hb => SparseCore.Cfg.mem_ownRefs_of_owner (h b hb)

/-- What is held at a share is held at its four quarters. -/
theorem pointsTo_quarters {ℓ : Loc nD τ sig} (I : Finset (Idx ℓ)) (f : Buf (Elt F) ℓ) (q : PosShare TreeShare) :
    (ℓ ↦[I]{q} f : sProp 𝕄) = iprop((ℓ ↦[I]{piece 2 q (0 : Fin 4).val} f) ∗ (ℓ ↦[I]{piece 2 q (1 : Fin 4).val} f)
      ∗ (ℓ ↦[I]{piece 2 q (2 : Fin 4).val} f) ∗ (ℓ ↦[I]{piece 2 q (3 : Fin 4).val} f)) := by
  rw [pointsTo_pieces I f 2 q]
  show bigSep (Finset.univ : Finset (Fin 4)) _ = _
  rw [show (Finset.univ : Finset (Fin 4)) = {0, 1, 2, 3} by decide, SparseCore.bigSep_insert' (by decide), SparseCore.bigSep_insert' (by decide),
    SparseCore.bigSep_insert' (by decide), bigSep_singleton]

end

end Cert.Proof.Ker

end
-- ==== Proof.Middle.lean ====
/-
  The middle of a subcore's task, its buffers held whole.
-/
module

public import proofs.«01_k».proof.Proof.Owned

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section
variable (d : Dev nD) (L : grid0.Coords)
variable (src : Memref sig .scVector .hbm S1000000x16 .f32) (iv : Memref sig .scVector .vmem S25600 .i32)
variable (g : Memref sig .scVector .vmem S800x16 .f32) (p : Memref sig .scVector .vmem S512x16 .f32) (sem : DmaSem sig)
variable (q qo : PosShare TreeShare) (ft : Buf (Elt F) (src.view.loc (thrV d L))) (fi : Buf (Elt F) (iv.view.loc (thrV d L)))
variable (O : CellTallies nD τ sig (HIx 1)) (W : Waits sig (HIx 1))

/-- An idle buffer, held whole. -/
theorem Idle.eq (hg : g.view.set = Finset.univ) : Idle d L src iv g sem q qo ft fi
    = iprop((∃ fd, g.view.loc (thrV d L) ↦{fullShare} fd) ∗ (src.view.loc (thrV d L) ↦[src.view.set]{q} ft)
      ∗ (iv.view.loc (thrV d L) ↦[iv.view.set]{qo} fi) ∗ semVal (thrV d L, .dma sem) 0) := by
  unfold Idle; rw [hg]

/-- Nothing pooled yet. -/
theorem RunSt.zero (hp : p.view.set = Finset.univ) (W' : Waits sig (HIx 1)) (hW : WOK W W') :
    iprop(owes (thrV d L) O W' ∗ ∃ fp, p.view.loc (thrV d L) ↦{fullShare} fp) ⊢ RunSt d L src iv p ft fi O W 0 := by
  unfold RunSt
  rw [hp]
  iintro ⟨HO, %fp, Hp⟩
  iexists W'
  isplitr; · ipureintro; exact hW
  isplitl [HO]; · iexact HO
  iexists fp
  isplitr; · ipureintro; exact fun r l h => absurd h (Nat.not_lt_zero _)
  iexact Hp

/-- Everything pooled. -/
theorem RunSt.all (hp : p.view.set = Finset.univ) :
    RunSt d L src iv p ft fi O W 512 ⊢ iprop(∃ W', ⌜WOK W W'⌝ ∗ owes (thrV d L) O W'
      ∗ ∃ fp, ⌜PoolUpTo (src.view.read (Elt F) ft) (iv.view.read (Elt F) fi) 512 (p.view.read (Elt F) fp)⌝ ∗ (p.view.loc (thrV d L) ↦{fullShare} fp)) := by
  unfold RunSt
  rw [hp]

/-- The list held in quarters. -/
theorem list_quarters (hi : iv.view.set = Finset.univ) : (iv.view.loc (thrV d L) ↦{fullShare} fi : sProp 𝕄)
    = iprop((iv.view.loc (thrV d L) ↦[iv.view.set]{piece 2 fullShare (0 : Fin 4).val} fi)
      ∗ (iv.view.loc (thrV d L) ↦[iv.view.set]{piece 2 fullShare (1 : Fin 4).val} fi)
      ∗ (iv.view.loc (thrV d L) ↦[iv.view.set]{piece 2 fullShare (2 : Fin 4).val} fi)
      ∗ (iv.view.loc (thrV d L) ↦[iv.view.set]{piece 2 fullShare (3 : Fin 4).val} fi)) := by
  rw [hi]; exact pointsTo_quarters _ _ _

end

section
variable (i : grid0.Coords) (arg2 : Memref sig .scVector .hbm S1000000x16 .f32) (harg2 : arg2.IsWhole) (arg3 : Memref sig .scVector .hbm S32x25600 .i32) (harg3 : arg3.IsWhole) (arg4 : Memref sig .scVector .hbm S16384x16 .f32) (harg4 : arg4.IsWhole) (arg5 : Memref sig .scVector .vmem S25600 .i32) (harg5 : arg5.IsWhole) (arg6 : Memref sig .scVector .vmem S800x16 .f32) (harg6 : arg6.IsWhole) (arg7 : Memref sig .scVector .vmem S800x16 .f32) (harg7 : arg7.IsWhole) (arg8 : Memref sig .scVector .vmem S800x16 .f32) (harg8 : arg8.IsWhole) (arg9 : Memref sig .scVector .vmem S800x16 .f32) (harg9 : arg9.IsWhole) (arg10 : Memref sig .scVector .vmem S512x16 .f32) (harg10 : arg10.IsWhole) (arg11 arg12 arg13 arg14 v13_r0 v13_r1 : DmaSems sig S_)

variable (d : Dev nD) (q : PosShare TreeShare) (ft : Buf (Elt F) ((tblK arg2).view.loc (thrV d i))) (fi : Buf (Elt F) (arg5.view.loc (thrV d i)))
  (O : CellTallies nD τ sig (HIx 1)) (W W' : Waits sig (HIx 1))

set_option maxRecDepth 16384 in
set_option maxHeartbeats 1000000 in
theorem wp_middle (hO : ∀ g, O g none = 0) (hW : WOK W W')
    (hN6 : ∀ h : S1000000x16.Gathers 0 S800x16, ∑ j, (arg6.slice (S800x16.rowRect h.axis' j) (S800x16.stride_rowRect h.axis' j)).view.dmaCredit = arg6.view.dmaCredit)
    (hN7 : ∀ h : S1000000x16.Gathers 0 S800x16, ∑ j, (arg7.slice (S800x16.rowRect h.axis' j) (S800x16.stride_rowRect h.axis' j)).view.dmaCredit = arg7.view.dmaCredit)
    (hN8 : ∀ h : S1000000x16.Gathers 0 S800x16, ∑ j, (arg8.slice (S800x16.rowRect h.axis' j) (S800x16.stride_rowRect h.axis' j)).view.dmaCredit = arg8.view.dmaCredit)
    (hN9 : ∀ h : S1000000x16.Gathers 0 S800x16, ∑ j, (arg9.slice (S800x16.rowRect h.axis' j) (S800x16.stride_rowRect h.axis' j)).view.dmaCredit = arg9.view.dmaCredit)
    (hg6 : arg6.view.set = Finset.univ)
    (hg7 : arg7.view.set = Finset.univ)
    (hg8 : arg8.view.set = Finset.univ)
    (hg9 : arg9.view.set = Finset.univ)
    (hg5 : arg5.view.set = Finset.univ) (hg10 : arg10.view.set = Finset.univ)
    (hI : ∀ x, BitVec.toNat (arg5.view.read (Elt F) fi x) < 1000000) {β : Type} (jp : PV F i β) (Q : β → sProp 𝕄) :
    iprop(levAts (K (F := F)).L (K (F := F)).lev ∗ ((tblK arg2).view.loc (thrV d i) ↦[(tblK arg2).view.set]{q} ft)
        ∗ (arg5.view.loc (thrV d i) ↦{fullShare} fi)
        ∗ (∃ f, arg6.view.loc (thrV d i) ↦{fullShare} f) ∗ semVal (thrV d i, .dma arg11.sem) 0
        ∗ (∃ f, arg7.view.loc (thrV d i) ↦{fullShare} f) ∗ semVal (thrV d i, .dma arg12.sem) 0
        ∗ (∃ f, arg8.view.loc (thrV d i) ↦{fullShare} f) ∗ semVal (thrV d i, .dma arg13.sem) 0
        ∗ (∃ f, arg9.view.loc (thrV d i) ↦{fullShare} f) ∗ semVal (thrV d i, .dma arg14.sem) 0
        ∗ (∃ fp, arg10.view.loc (thrV d i) ↦{fullShare} fp) ∗ owes (thrV d i) O W'
        ∗ (((tblK arg2).view.loc (thrV d i) ↦[(tblK arg2).view.set]{q} ft)
        -∗ (arg5.view.loc (thrV d i) ↦{fullShare} fi)
        -∗ (∃ f, arg6.view.loc (thrV d i) ↦{fullShare} f) -∗ semVal (thrV d i, .dma arg11.sem) 0
        -∗ (∃ f, arg7.view.loc (thrV d i) ↦{fullShare} f) -∗ semVal (thrV d i, .dma arg12.sem) 0
        -∗ (∃ f, arg8.view.loc (thrV d i) ↦{fullShare} f) -∗ semVal (thrV d i, .dma arg13.sem) 0
        -∗ (∃ f, arg9.view.loc (thrV d i) ↦{fullShare} f) -∗ semVal (thrV d i, .dma arg14.sem) 0
        -∗ (∀ W'' fp, ⌜WOK W W''⌝ -∗ ⌜PoolUpTo ((tblK arg2).view.read (Elt F) ft) (arg5.view.read (Elt F) fi) 512 (arg10.view.read (Elt F) fp)⌝
          -∗ owes (thrV d i) O W'' -∗ (arg10.view.loc (thrV d i) ↦{fullShare} fp)
            -∗ wp frame (wpE (defs₀ (F := F)) 𝒱₀ (thrV d i) none) Set.univ jp Q)))
      ⊢ wp frame (wpE (defs₀ (F := F)) 𝒱₀ (thrV d i) none) Set.univ
          (SparseCore.enqueueIndirectGather rfl (tblK arg2) arg6 gathers_S1000000x16_S800x16 (offsAt arg5 ![0] inb_S25600_S800_0) rfl arg11.sem (View.wordExact_bits rfl) rfl (Or.inl rfl) >>= fun _ =>
            SparseCore.enqueueIndirectGather rfl (tblK arg2) arg7 gathers_S1000000x16_S800x16 (offsAt arg5 ![800] inb_S25600_S800_800) rfl arg12.sem (View.wordExact_bits rfl) rfl (Or.inl rfl) >>= fun _ =>
            SparseCore.enqueueIndirectGather rfl (tblK arg2) arg8 gathers_S1000000x16_S800x16 (offsAt arg5 ![1600] inb_S25600_S800_1600) rfl arg13.sem (View.wordExact_bits rfl) rfl (Or.inl rfl) >>= fun _ =>
            SparseCore.enqueueIndirectGather rfl (tblK arg2) arg9 gathers_S1000000x16_S800x16 (offsAt arg5 ![2400] inb_S25600_S800_2400) rfl arg14.sem (View.wordExact_bits rfl) rfl (Or.inl rfl) >>= fun _ =>
            Scf.Loop.for k0_t1_loop k0_t1_ok 0#32 (k0_t1_body i arg2 harg2 arg3 harg3 arg4 harg4 arg5 harg5 arg6 harg6 arg7 harg7 arg8 harg8 arg9 harg9 arg10 harg10 arg11 arg12 arg13 arg14 v13_r0 v13_r1) >>= fun _ => jp) Q := by
  rw [list_quarters d i arg5 fi hg5]
  iintro ⟨#Hlv, Ht, ⟨I0, I1, I2, I3⟩, H0, S0, H1, S1, H2, S2, H3, S3, Hp, HO, HK⟩
  ihave Ht' := (Entails.of_eq (pointsTo_quarters (tblK arg2).view.set ft q)) $$ Ht
  icases Ht' with ⟨T0, T1, T2, T3⟩
  iapply (wp_mid i arg2 harg2 arg3 harg3 arg4 harg4 arg5 harg5 arg6 harg6 arg7 harg7 arg8 harg8 arg9 harg9 arg10 harg10 arg11 arg12 arg13 arg14 v13_r0 v13_r1 d (fun b => piece 2 q b.val) (fun b => piece 2 fullShare b.val) ft fi O W hO hN6 hN7 hN8 hN9 hI)
  rw [Idle.eq d i _ _ _ _ _ _ _ _ hg6, Idle.eq d i _ _ _ _ _ _ _ _ hg7, Idle.eq d i _ _ _ _ _ _ _ _ hg8, Idle.eq d i _ _ _ _ _ _ _ _ hg9]
  isplitr; · iexact Hlv
  isplitl [H0 T0 I0 S0]
  · isplitl [H0]; · iexact H0
    isplitl [T0]; · iexact T0
    isplitl [I0]; · iexact I0
    iexact S0
  isplitl [H1 T1 I1 S1]
  · isplitl [H1]; · iexact H1
    isplitl [T1]; · iexact T1
    isplitl [I1]; · iexact I1
    iexact S1
  isplitl [H2 T2 I2 S2]
  · isplitl [H2]; · iexact H2
    isplitl [T2]; · iexact T2
    isplitl [I2]; · iexact I2
    iexact S2
  isplitl [H3 T3 I3 S3]
  · isplitl [H3]; · iexact H3
    isplitl [T3]; · iexact T3
    isplitl [I3]; · iexact I3
    iexact S3
  isplitl [HO Hp]
  · iapply (RunSt.zero d i (tblK arg2) arg5 arg10 ft fi O W hg10 W' hW)
    isplitl [HO] <;> iassumption
  iintro ⟨H0, T0, I0, S0⟩ ⟨H1, T1, I1, S1⟩ ⟨H2, T2, I2, S2⟩ ⟨H3, T3, I3, S3⟩ HR
  ihave HR' := (RunSt.all d i (tblK arg2) arg5 arg10 ft fi O W hg10) $$ HR
  icases HR' with ⟨%W1, %hW1, HO, %fp', %hfp, Hp⟩
  iapply HK $$ [T0 T1 T2 T3] [I0 I1 I2 I3] H0 S0 H1 S1 H2 S2 H3 S3 %W1 %fp' [] [] HO Hp
  · iapply (Entails.of_eq (pointsTo_quarters (tblK arg2).view.set ft q).symm)
    isplitl [T0]; · iexact T0
    isplitl [T1]; · iexact T1
    isplitl [T2]; · iexact T2
    iexact T3
  · isplitl [I0]; · iexact I0
    isplitl [I1]; · iexact I1
    isplitl [I2]; · iexact I2
    iexact I3
  · ipureintro; exact hW1
  · ipureintro; exact hfp

end

end Cert.Proof.Ker

end
-- ==== Proof.TileBody.lean ====
/-
  The task of one subcore.
-/
module

public import proofs.«01_k».proof.Proof.Middle
public import proofs.«01_k».proof.Proof.Tile
public import proofs.«01_k».proof.Proof.TaskEq

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- One row of the list's chunk is fetched at a buffer's credit. -/
theorem hN1 : ∀ h : S1000000x16.Gathers 0 S800x16, ∑ j, ((Memref.whole cc0_scratch1 : Memref sig .scVector .vmem S800x16 .f32).slice (S800x16.rowRect h.axis' j) (S800x16.stride_rowRect h.axis' j)).view.dmaCredit
    = (Memref.whole cc0_scratch1 : Memref sig .scVector .vmem S800x16 .f32).view.dmaCredit := by decide +kernel

theorem set_gV (r : Ref sig .scVector) : (View.whole r).set = Finset.univ := View.set_whole r

variable (tb : (d : Dev nD) → Buf (Elt F) (tabLoc d)) (ib : (d : Dev nD) → Buf (Elt F) (idxLoc d)) (ob : (d : Dev nD) → Buf (Elt F) (outLoc d))
variable (d : Dev nD) (L : grid0.Coords) (O : CellTallies nD τ sig (HIx 1)) (W : Waits sig (HIx 1))

theorem iHeld (f : Buf (Elt F) (idxLoc d)) : (idxLoc d ↦[iSet (wid L)]{fullShare} f : sProp 𝕄) = ((iRowK L).view.loc (thrV d L) ↦[(iRowK L).view.set]{fullShare} f) :=
  congrArg (fun S => (idxLoc d ↦[S]{fullShare} f : sProp 𝕄)) (set_iRowK L).symm
theorem oHeld (f : Buf (Elt F) (outLoc d)) : (outLoc d ↦[oSet (wid L)]{fullShare} f : sProp 𝕄) = ((oRowK L).view.loc (thrV d L) ↦[(oRowK L).view.set]{fullShare} f) :=
  congrArg (fun S => (outLoc d ↦[S]{fullShare} f : sProp 𝕄)) (set_oRowK L).symm

set_option maxRecDepth 16384 in
set_option maxHeartbeats 1000000 in
theorem tile_body (hF : (K (F := F)).Facts) (hpre : ∀ d (x : S32x25600.Idx), BitVec.toNat (ib d x) < 1000000) (hO : ∀ g, O g none = 0) :
    iprop(levAts (K (F := F)).L (K (F := F)).lev ∗ emp ∗ part tb ib d (wid L) (ob d)
        ∗ scopedBufs (thrV d L) ∗ scopedSems0 (thrV d L) ∗ owes (thrV d L) O W)
      ⊢ wp frame (wpE (defs₀ (F := F)) 𝒱₀ (thrV d L) none) Set.univ (cc0_gather_pool (F := F) L tV (Memref.isWhole_whole _) iV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1)
          fun _ => iprop(part tb ib d (wid L) (poolBuf (tb d) (ib d)) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), ownSems0_V d L, ownBufs_V d L]
  simp only [List.foldr]
  rw [task_eq, wp_bind]
  unfold part
  rw [iHeld d L, oHeld d L, oHeld d L]
  iintro ⟨#Hlv, -, ⟨Hi, Ht, Ho⟩, ⟨⟨%fs, Hs⟩, H1, H2, H3, H4, Hp, Hbufs⟩, ⟨S1, S2, S3, S4, SA, SB, Hsems⟩, HO⟩
  iapply (wp_wand_r frame)
  isplitl [Hi Hs SA HO]
  · iapply (wp_listIn d L O W hO (ib d) fs)
    isplitr; · iexact Hlv
    isplitl [Hi]; · iexact Hi
    isplitl [Hs]; · iexact Hs
    isplitl [SA]; · iexact SA
    iexact HO
  iintro %x ⟨Hi, ⟨%fi, %hfi, Hs⟩, SA, HO⟩
  have hI : ∀ x, BitVec.toNat ((sV).view.read (Elt F) fi x) < 1000000 := fun x => by rw [hfi]; exact hpre d _
  ihave Htt := (pointsTo_split_subset (q := piece 5 fullShare (wid L).val) (f := tb d) (S := Finset.univ) (Finset.subset_univ (tblK tV).view.set)).1 $$ Ht
  icases Htt with ⟨Ht, Htr⟩
  iapply (wp_middle L tV (Memref.isWhole_whole _) iV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 d (piece 5 fullShare (wid L).val) (tb d) fi O W (insert (SemLoc.dma cc0_scoped0.sem, (default : HIx 1)) W)
    hO (WOK.insert (fun p hp => .inl hp) _) hN1 hN1 hN1 hN1 (set_gV cc0_scratch1) (set_gV cc0_scratch2) (set_gV cc0_scratch3) (set_gV cc0_scratch4) (set_gV cc0_scratch0) (set_gV cc0_scratch5) hI)
  isplitr; · iexact Hlv
  isplitl [Ht]; · iexact Ht
  isplitl [Hs]; · iexact Hs
  isplitl [H1]; · iexact H1
  isplitl [S1]; · iexact S1
  isplitl [H2]; · iexact H2
  isplitl [S2]; · iexact S2
  isplitl [H3]; · iexact H3
  isplitl [S3]; · iexact S3
  isplitl [H4]; · iexact H4
  isplitl [S4]; · iexact S4
  isplitl [Hp]; · iexact Hp
  isplitl [HO]; · iexact HO
  iintro Ht Hs H1 S1 H2 S2 H3 S3 H4 S4 %W1 %fp' %hW1 %hfp HO Hp
  have hfp' : PoolUpTo (tb d) (listOf (ib d) (wid L)) 512 ((pV).view.read (Elt F) fp') := by
    rw [← hfi, ← read_tblK d (tb d)]; exact hfp
  iapply (wp_wand_r frame)
  isplitl [Ho Hp SB HO]
  · iapply (wp_blockOut d L O W1 hO (tb d) (ib d) (ob d) fp' hfp')
    isplitr; · iexact Hlv
    isplitl [Ho]; · iexact Ho
    isplitl [Hp]; · iexact Hp
    isplitl [SB]; · iexact SB
    iexact HO
  iintro %y ⟨⟨%fo, %hfo, Ho⟩, Hp, SB, HO⟩
  ihave Ht' := (pointsTo_split_subset (q := piece 5 fullShare (wid L).val) (f := tb d) (S := Finset.univ) (Finset.subset_univ (tblK tV).view.set)).2 $$ [Ht Htr]
  · isplitl [Ht] <;> iassumption
  isplitl [Hi Ht' Ho]
  · isplitl [Hi]; · iexact Hi
    isplitl [Ht']; · iexact Ht'
    iapply (Entails.of_eq (pointsTo_congr hfo)); iexact Ho
  isplitl [Hs H1 H2 H3 H4 Hp Hbufs]
  · isplitl [Hs]; · iexists _; iexact Hs
    isplitl [H1]; · iexact H1
    isplitl [H2]; · iexact H2
    isplitl [H3]; · iexact H3
    isplitl [H4]; · iexact H4
    isplitl [Hp]; · iexists _; iexact Hp
    iexact Hbufs
  isplitl [S1 S2 S3 S4 SA SB Hsems]
  · isplitl [S1]; · iexact S1
    isplitl [S2]; · iexact S2
    isplitl [S3]; · iexact S3
    isplitl [S4]; · iexact S4
    isplitl [SA]; · iexact SA
    isplitl [SB]; · iexact SB
    iexact Hsems
  iexists (insert (SemLoc.dma cc0_scoped1.sem, (default : HIx 1)) W1)
  isplitr; · ipureintro; exact WOK.insert hW1 _
  iexact HO

end Cert.Proof.Ker

end
-- ==== Proof.Call.lean ====
/-
  The SparseCore call: what passes at it, and every subcore's task meeting its obligation.
-/
module

public import proofs.«01_k».proof.Proof.TileBody

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (tb : (d : Dev nD) → Buf (Elt F) (tabLoc d)) (ib : (d : Dev nD) → Buf (Elt F) (idxLoc d)) (ob : (d : Dev nD) → Buf (Elt F) (outLoc d))

/-- The number of subcore `i` of SparseCore `c`. -/
def wN (c i : ℕ) : Fin 32 := ⟨(2 * i + c) % 32, Nat.mod_lt _ (by decide)⟩

/-- Each task takes its part of the three operands and brings it back with its block of the pooled array filled; a
    SparseCore takes the parts of its sixteen tasks. -/
def P : (K (F := F)).Pay (nD := nD) (Val := Elt F) (Name := ℕ) (U := UU) where
  st := fun q d c => bigSep Finset.univ fun i : Fin ((K (F := F)).nSub q) => part tb ib d (wN c.val i.val) (ob d)
  dn := fun q d c => bigSep Finset.univ fun i : Fin ((K (F := F)).nSub q) => part tb ib d (wN c.val i.val) (poolBuf (tb d) (ib d))
  go := fun _ d c i => part tb ib d (wN c.val i.val) (ob d)
  td := fun _ d c i => part tb ib d (wN c.val i.val) (poolBuf (tb d) (ib d))
  x := fun _ _ => iprop(emp)

instance P_storable : (P (F := F) tb ib ob).IsStorable where
  st q d c := (inferInstance : BI.Storable (upEmb : UEmb _ 𝕄) (bigSep Finset.univ fun i : Fin ((K (F := F)).nSub q) => part tb ib d (wN c.val i.val) (ob d)))
  dn q d c := (inferInstance : BI.Storable (upEmb : UEmb _ 𝕄) (bigSep Finset.univ fun i : Fin ((K (F := F)).nSub q) => part tb ib d (wN c.val i.val) (poolBuf (tb d) (ib d))))
  go q d c i := (inferInstance : BI.Storable (upEmb : UEmb _ 𝕄) (part tb ib d (wN c.val i.val) (ob d)))
  td q d c i := (inferInstance : BI.Storable (upEmb : UEmb _ 𝕄) (part tb ib d (wN c.val i.val) (poolBuf (tb d) (ib d))))

def coordsV (c : Fin (grid0.bound 0)) (s : Fin (grid0.bound 1)) : grid0.Coords :=
  fun | 0 => c | 1 => s | ⟨_ + 2, h⟩ => absurd h (Nat.not_lt.2 (Nat.le_add_left _ _))

theorem wid_coordsV (c : Fin (grid0.bound 0)) (s : Fin (grid0.bound 1)) : wid (coordsV c s) = wN c.val s.val := by
  have hc : c.val < 2 := c.isLt
  have hs : s.val < 16 := s.isLt
  exact Fin.ext (show 2 * s.val + c.val = (2 * s.val + c.val) % 32 by omega)

theorem defs₀_vector (c : Fin τ.nSC) (s : Fin τ.nSub) :
    defs₀ (F := F) (.scVector c s) 0 ()
      = SparseCore.onTile hcore0 hsub0 (fun c s => cc0_gather_pool (coordsV c s) tV (Memref.isWhole_whole _) iV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : ∀ d (x : S32x25600.Idx), BitVec.toNat (ib d x) < 1000000) :
    (K (F := F)).TileObl (D (F := F)) 𝒱 (P tb ib ob) v₀ 0 := by
  intro d c i O W hO _ _
  simp only [show (P (F := F) tb ib ob).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := tile_body tb ib ob d (coordsV ⟨_, hci.1⟩ ⟨_, hci.2⟩) O W hF hpre hO
  rw [wid_coordsV] at hb
  exact hb.trans (wp_mono frame _ _ fun _ => obl_post)

theorem vecSplit : (K (F := F)).VecSplit' (P tb ib ob) 0 := by
  intro d c
  show (bigSep Finset.univ fun i : Fin ((K (F := F)).nSub 0) => part tb ib d (wN c.val i.val) (ob d)) ⊢ |={Set.univ}=> iprop(
      (bigSep Finset.univ fun i : Fin ((K (F := F)).nSub 0) => part tb ib d (wN c.val i.val) (ob d))
      ∗ ((bigSep Finset.univ fun i : Fin ((K (F := F)).nSub 0) => part tb ib d (wN c.val i.val) (poolBuf (tb d) (ib d)))
        -∗ bigSep Finset.univ fun i : Fin ((K (F := F)).nSub 0) => part tb ib d (wN c.val i.val) (poolBuf (tb d) (ib d))))
  iintro H; imodintro
  isplitl [H]; · iexact H
  iintro H; iexact H

/-- The cores and their subcores numbered together. -/
def numbers : Fin 2 × Fin 16 ≃ Fin 32 where
  toFun p := wN p.1.val p.2.val
  invFun w := (⟨w.val % 2, Nat.mod_lt _ (by decide)⟩, ⟨w.val / 2, by have := w.isLt; omega⟩)
  left_inv := fun ⟨c, i⟩ => by
    have := c.isLt; have := i.isLt
    exact Prod.ext (Fin.ext (show ((2 * i.val + c.val) % 32) % 2 = c.val by omega)) (Fin.ext (show ((2 * i.val + c.val) % 32) / 2 = i.val by omega))
  right_inv := fun w => Fin.ext (show (2 * (w.val / 2) + w.val % 2) % 32 = w.val by have := w.isLt; omega)

/-- What the SparseCores take together, or bring back, is the three operands whole. -/
theorem cores_eq (d : Dev nD) (o : Buf (Elt F) (outLoc d)) :
    (bigSep Finset.univ fun c : Fin ((K (F := F)).nCore 0) => bigSep Finset.univ fun i : Fin ((K (F := F)).nSub 0) => part tb ib d (wN c.val i.val) o)
      = iprop((idxLoc d ↦{fullShare} ib d) ∗ (tabLoc d ↦{fullShare} tb d) ∗ (outLoc d ↦{fullShare} o)) := by
  rw [← parts_eq tb ib d o, bigSep_univ_equiv numbers, bigSep_univ_prod]
  rfl

end Cert.Proof.Ker

end
-- ==== Proof.Dense.lean ====
/-
  The dense layers of one block, run on its staged windows.
-/
module

public import proofs.«01_k».proof.Proof.Base
public import proofs.«01_k».proof.Proof.Gen.KernelIdeal.Points
public import Idealize.ShloMosaic.Lib.Pipeline.FrameBody
public import Idealize.ShloMosaic.Lib.VecWindow

@[expose] public section

noncomputable section

namespace Cert.Proof.Ker

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- Row `a` of the first weights. -/
abbrev wRow (W1 : Vec F S24x64 .f32) (a : ℕ) (inb : ∀ x, (![a, 0] : Fin 2 → ℕ) x + S1x64.size x ≤ S24x64.size x) : Vec F S1x64 .f32 :=
  View.ld W1 (Rect.unit (s := S24x64) ![a, 0] S1x64.size inb)

/-- What the dense layers make of one block. -/
def dense (X1 : Vec F S4096 .f32)
  (X2 : Vec F S4096 .f32)
  (X3 : Vec F S4096 .f32)
  (X4 : Vec F S4096 .f32)
  (X5 : Vec F S4096 .f32)
  (X6 : Vec F S4096 .f32)
  (X7 : Vec F S4096 .f32)
  (X8 : Vec F S4096 .f32)
  (X9 : Vec F S4096x16 .f32)
  (X10 : Vec F S24x64 .f32)
  (X11 : Vec F S1x64 .f32)
  (X12 : Vec F S64x32 .f32)
  (X13 : Vec F S1x32 .f32)
  (X14 : Vec F S32x1 .f32)
  (X15 : Vec F S1x1 .f32) : Vec F S4096 .f32 :=
  k1_pay1 (k1_pay5 (k1_pay2 X9 (View.ld X10 (Rect.unit (s := S24x64) ![8, 0] S16x64.size inb_S24x64_S16x64_8_0)) X11
        X1 (wRow X10 0 inb_S24x64_S1x64_0_0) X2 (wRow X10 1 inb_S24x64_S1x64_1_0) X3 (wRow X10 2 inb_S24x64_S1x64_2_0))
      (k1_pay3 X4) (k1_pay4 (wRow X10 3 inb_S24x64_S1x64_3_0)) X5 (wRow X10 4 inb_S24x64_S1x64_4_0) X6 (wRow X10 5 inb_S24x64_S1x64_5_0)
      X7 (wRow X10 6 inb_S24x64_S1x64_6_0) X8 (wRow X10 7 inb_S24x64_S1x64_7_0)) X12 X13 X14 X15

/-- `dense` from the values loaded, each equal to what it is loaded from. -/
theorem dense_of {X1 X2 X3 X4 X5 X6 X7 X8 : Vec F S4096 .f32} {X9 : Vec F S4096x16 .f32} {X10 : Vec F S24x64 .f32} {X11 : Vec F S1x64 .f32}
    {X12 : Vec F S64x32 .f32} {X13 : Vec F S1x32 .f32} {X14 : Vec F S32x1 .f32} {X15 : Vec F S1x1 .f32}
    {Y1 Y2 Y3 Y4 Y5 Y6 Y7 Y8 : Vec F S4096 .f32} {Y9 : Vec F S4096x16 .f32} {W : Vec F S16x64 .f32} {R0 R1 R2 R3 R4 R5 R6 R7 : Vec F S1x64 .f32}
    {Y11 : Vec F S1x64 .f32} {Y12 : Vec F S64x32 .f32} {Y13 : Vec F S1x32 .f32} {Y14 : Vec F S32x1 .f32} {Y15 : Vec F S1x1 .f32}
    (h1 : Y1 = X1) (h2 : Y2 = X2) (h3 : Y3 = X3) (h4 : Y4 = X4) (h5 : Y5 = X5) (h6 : Y6 = X6) (h7 : Y7 = X7) (h8 : Y8 = X8) (h9 : Y9 = X9)
    (hW : W = View.ld X10 (Rect.unit ![8, 0] S16x64.size inb_S24x64_S16x64_8_0))
    (r0 : R0 = wRow X10 0 inb_S24x64_S1x64_0_0) (r1 : R1 = wRow X10 1 inb_S24x64_S1x64_1_0) (r2 : R2 = wRow X10 2 inb_S24x64_S1x64_2_0)
    (r3 : R3 = wRow X10 3 inb_S24x64_S1x64_3_0) (r4 : R4 = wRow X10 4 inb_S24x64_S1x64_4_0) (r5 : R5 = wRow X10 5 inb_S24x64_S1x64_5_0)
    (r6 : R6 = wRow X10 6 inb_S24x64_S1x64_6_0) (r7 : R7 = wRow X10 7 inb_S24x64_S1x64_7_0)
    (h11 : Y11 = X11) (h12 : Y12 = X12) (h13 : Y13 = X13) (h14 : Y14 = X14) (h15 : Y15 = X15) :
    k1_pay1 (k1_pay5 (k1_pay2 Y9 W Y11 Y1 R0 Y2 R1 Y3 R2) (k1_pay3 Y4) (k1_pay4 R3) Y5 R4 Y6 R5 Y7 R6 Y8 R7) Y12 Y13 Y14 Y15
      = dense X1 X2 X3 X4 X5 X6 X7 X8 X9 X10 X11 X12 X13 X14 X15 := by
  subst h1 h2 h3 h4 h5 h6 h7 h8 h9 hW r0 r1 r2 r3 r4 r5 r6 r7 h11 h12 h13 h14 h15
  rfl

theorem owns_of {d : Dev nD} {s : Shape} {e : EltTy} {M : Memref sig .tc .vmem s e} {f : Buf (Elt F) (M.view.loc (d.tc : Thread nD τ))} {X : s.Idx → Elt F e}
    (h : M.view.read (Elt F) f = X) : (M.view.loc (d.tc : Thread nD τ) ↦[M.view.set]{fullShare} f : sProp 𝕄)
      ⊢ iprop(∃ g, ⌜M.view.read (Elt F) g = X⌝ ∗ (M.view.loc (d.tc : Thread nD τ) ↦[M.view.set]{fullShare} g)) := by
  iintro H
  iexists f
  isplitr; · ipureintro; exact h
  iexact H

section
variable (d : Dev nD) (i : grid1.Coords)
variable (arg1 : Memref sig .tc .vmem S4096 .f32) (harg1 : arg1.IsWhole)
variable (arg2 : Memref sig .tc .vmem S4096 .f32) (harg2 : arg2.IsWhole)
variable (arg3 : Memref sig .tc .vmem S4096 .f32) (harg3 : arg3.IsWhole)
variable (arg4 : Memref sig .tc .vmem S4096 .f32) (harg4 : arg4.IsWhole)
variable (arg5 : Memref sig .tc .vmem S4096 .f32) (harg5 : arg5.IsWhole)
variable (arg6 : Memref sig .tc .vmem S4096 .f32) (harg6 : arg6.IsWhole)
variable (arg7 : Memref sig .tc .vmem S4096 .f32) (harg7 : arg7.IsWhole)
variable (arg8 : Memref sig .tc .vmem S4096 .f32) (harg8 : arg8.IsWhole)
variable (arg9 : Memref sig .tc .vmem S4096x16 .f32) (harg9 : arg9.IsWhole)
variable (arg10 : Memref sig .tc .vmem S24x64 .f32) (harg10 : arg10.IsWhole)
variable (arg11 : Memref sig .tc .vmem S1x64 .f32) (harg11 : arg11.IsWhole)
variable (arg12 : Memref sig .tc .vmem S64x32 .f32) (harg12 : arg12.IsWhole)
variable (arg13 : Memref sig .tc .vmem S1x32 .f32) (harg13 : arg13.IsWhole)
variable (arg14 : Memref sig .tc .vmem S32x1 .f32) (harg14 : arg14.IsWhole)
variable (arg15 : Memref sig .tc .vmem S1x1 .f32) (harg15 : arg15.IsWhole)
variable (arg16 : Memref sig .tc .vmem S4096 .f32) (harg16 : arg16.IsWhole)

set_option maxRecDepth 16384 in
set_option maxHeartbeats 1000000 in
theorem wp_dense (X1 : Vec F S4096 .f32)
  (X2 : Vec F S4096 .f32)
  (X3 : Vec F S4096 .f32)
  (X4 : Vec F S4096 .f32)
  (X5 : Vec F S4096 .f32)
  (X6 : Vec F S4096 .f32)
  (X7 : Vec F S4096 .f32)
  (X8 : Vec F S4096 .f32)
  (X9 : Vec F S4096x16 .f32)
  (X10 : Vec F S24x64 .f32)
  (X11 : Vec F S1x64 .f32)
  (X12 : Vec F S64x32 .f32)
  (X13 : Vec F S1x32 .f32)
  (X14 : Vec F S32x1 .f32)
  (X15 : Vec F S1x1 .f32) (E : Set ℕ) (Q : PUnit → sProp 𝕄) :
    iprop((owns (d.tc : Thread nD τ) arg1 fullShare X1
      ∗ owns (d.tc : Thread nD τ) arg2 fullShare X2
      ∗ owns (d.tc : Thread nD τ) arg3 fullShare X3
      ∗ owns (d.tc : Thread nD τ) arg4 fullShare X4
      ∗ owns (d.tc : Thread nD τ) arg5 fullShare X5
      ∗ owns (d.tc : Thread nD τ) arg6 fullShare X6
      ∗ owns (d.tc : Thread nD τ) arg7 fullShare X7
      ∗ owns (d.tc : Thread nD τ) arg8 fullShare X8
      ∗ owns (d.tc : Thread nD τ) arg9 fullShare X9
      ∗ owns (d.tc : Thread nD τ) arg10 fullShare X10
      ∗ owns (d.tc : Thread nD τ) arg11 fullShare X11
      ∗ owns (d.tc : Thread nD τ) arg12 fullShare X12
      ∗ owns (d.tc : Thread nD τ) arg13 fullShare X13
      ∗ owns (d.tc : Thread nD τ) arg14 fullShare X14
      ∗ owns (d.tc : Thread nD τ) arg15 fullShare X15) ∗ (∃ X, owns (d.tc : Thread nD τ) arg16 fullShare X)
      ∗ (iprop((owns (d.tc : Thread nD τ) arg1 fullShare X1
      ∗ owns (d.tc : Thread nD τ) arg2 fullShare X2
      ∗ owns (d.tc : Thread nD τ) arg3 fullShare X3
      ∗ owns (d.tc : Thread nD τ) arg4 fullShare X4
      ∗ owns (d.tc : Thread nD τ) arg5 fullShare X5
      ∗ owns (d.tc : Thread nD τ) arg6 fullShare X6
      ∗ owns (d.tc : Thread nD τ) arg7 fullShare X7
      ∗ owns (d.tc : Thread nD τ) arg8 fullShare X8
      ∗ owns (d.tc : Thread nD τ) arg9 fullShare X9
      ∗ owns (d.tc : Thread nD τ) arg10 fullShare X10
      ∗ owns (d.tc : Thread nD τ) arg11 fullShare X11
      ∗ owns (d.tc : Thread nD τ) arg12 fullShare X12
      ∗ owns (d.tc : Thread nD τ) arg13 fullShare X13
      ∗ owns (d.tc : Thread nD τ) arg14 fullShare X14
      ∗ owns (d.tc : Thread nD τ) arg15 fullShare X15) ∗ owns (d.tc : Thread nD τ) arg16 fullShare (dense X1 X2 X3 X4 X5 X6 X7 X8 X9 X10 X11 X12 X13 X14 X15)) -∗ Q ⟨⟩))
      ⊢ wp frame (wpE (defs₀ (F := F)) 𝒱₀ (d.tc : Thread nD τ) none) E (cc1__mlp_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc1__mlp_body_eq_skeleton]
  unfold cc1__mlp_body_skel
  rw [k1_part1_eq_skeleton, k1_part2_eq_skeleton]
  unfold k1_part1_skel k1_part2_skel
  simp only [Prog.lift, Prog.bind_op, Prog.bind_ret, Prog.bind_assoc, pure_bind]
  unfold owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩, ⟨%X16, %f16, %h16, H16⟩, HK⟩
  sl_steps
  iapply HK
  isplitr [H16]
  · isplitl [H1]; · iapply (owns_of h1); iexact H1
    isplitl [H2]; · iapply (owns_of h2); iexact H2
    isplitl [H3]; · iapply (owns_of h3); iexact H3
    isplitl [H4]; · iapply (owns_of h4); iexact H4
    isplitl [H5]; · iapply (owns_of h5); iexact H5
    isplitl [H6]; · iapply (owns_of h6); iexact H6
    isplitl [H7]; · iapply (owns_of h7); iexact H7
    isplitl [H8]; · iapply (owns_of h8); iexact H8
    isplitl [H9]; · iapply (owns_of h9); iexact H9
    isplitl [H10]; · iapply (owns_of h10); iexact H10
    isplitl [H11]; · iapply (owns_of h11); iexact H11
    isplitl [H12]; · iapply (owns_of h12); iexact H12
    isplitl [H13]; · iapply (owns_of h13); iexact H13
    isplitl [H14]; · iapply (owns_of h14); iexact H14
    iapply (owns_of h15); iexact H15
  subst h1 h2 h3 h4 h5 h6 h7 h8 h9 h10 h11 h12 h13 h14 h15
  iapply (owns_of ?_)
  rotate_left
  · iexact H16
  refine (View.read_writes_full arg16.view f16 inb_S4096_S4096_0 _ []).trans ?_
  exact dense_of (View.readAt_full arg1.view f1 _) (View.readAt_full arg2.view f2 _) (View.readAt_full arg3.view f3 _)
    (View.readAt_full arg4.view f4 _) (View.readAt_full arg5.view f5 _) (View.readAt_full arg6.view f6 _)
    (View.readAt_full arg7.view f7 _) (View.readAt_full arg8.view f8 _) (View.readAt_full arg9.view f9 _) rfl rfl rfl rfl rfl rfl rfl rfl rfl
    (View.readAt_full arg11.view f11 _) (View.readAt_full arg12.view f12 _) (View.readAt_full arg13.view f13 _)
    (View.readAt_full arg14.view f14 _) (View.readAt_full arg15.view f15 _)

end

end Cert.Proof.Ker

end
-- ==== Proof.Region.lean ====
/-
  The dense layers' kernel region: its proof data, its body obligation, and the region entered from any valuation of the
  unscoped buffers and left with the result's array at what the four write-backs make of it.
-/
module

public import proofs.«01_k».proof.Proof.Dense
public import proofs.«01_k».proof.Proof.Gen.KernelIdeal.Launch
public import Idealize.ShloMosaic.Lib.Pipeline.RegionsLoop

@[expose] public section

noncomputable section

namespace Cert.Proof.Ker

open Cert.KernelIdeal Cert.KernelIdeal.Gen

open Idealize.ShloMosaic
open Idealize.ShloMosaic.TcCoe
open Idealize.ShloMosaic.Pipeline (Dat Cfg Window BodyObligation cellOf)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The TensorCore's unscoped references. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- An input window's block at a point, as the fetch stages it. -/
abbrev stg (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result's block at a point. -/
def outBlk (c : Dev nD) (t : Fin cfg1.N) : Vec F S4096 .f32 :=
  dense (stg V c 0 t) (stg V c 1 t) (stg V c 2 t) (stg V c 3 t) (stg V c 4 t) (stg V c 5 t) (stg V c 6 t) (stg V c 7 t)
    (stg V c 8 t) (stg V c 9 t) (stg V c 10 t) (stg V c 11 t) (stg V c 12 t) (stg V c 13 t) (stg V c 14 t)

/-- The scoped buffers no window stages. -/
abbrev Φc (c : Dev nD) : sProp 𝕄 := Pipeline.scopedRest (Ix := HIx 1) (Name := ℕ) (U := UU) (Lvl := ℕ) (Val := Elt F) spec1 c

/-- The proof data of one entry of the region. -/
def dat (c : Dev nD) : Dat τ (Elt F) (HIx 1) ℕ UU ℕ cfg1 c where
  A w := V c (Pipeline.arrRef spec1 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => stg V c 6 t
    | ⟨7, _⟩ => stg V c 7 t
    | ⟨8, _⟩ => stg V c 8 t
    | ⟨9, _⟩ => stg V c 9 t
    | ⟨10, _⟩ => stg V c 10 t
    | ⟨11, _⟩ => stg V c 11 t
    | ⟨12, _⟩ => stg V c 12 t
    | ⟨13, _⟩ => stg V c 13 t
    | ⟨14, _⟩ => stg V c 14 t
    | ⟨15, _⟩ => outBlk V c t
    | ⟨_ + 16, h⟩ => absurd h (Nat.not_lt.2 (Nat.le_add_left _ _))
  Φ _ := Φc c
  q _ := fullShare
  owed _ := 0

/-- An input window's buffer holds its block whenever the body runs, fetched there or not. -/
theorem before_in (c : Dev nD) (w : Fin 16) (hw : w ≠ 15) (t : Fin cfg1.N) (d : (cfg1.win w).block.Idx → Elt F (cfg1.win w).elt) :
    (dat V c).before w t d = (dat V c).after w t := by
  fin_cases w <;>
    first
      | exact absurd rfl hw
      | exact ((dat V c).before_in_eq_fetched _ rfl (fun _ => rfl) (fun _ _ _ => rfl) (fun _ => rfl) t d).trans rfl

/-- Every window but the last is an input, of another array than the result's. -/
theorem isIn (w : Fin 16) (h : w ≠ 15) : (cfg1.win w).isOut = false := by
  revert w; decide
theorem arrRef_ne (w : Fin 16) (h : w ≠ 15) : Pipeline.arrRef spec1 w ≠ main_v5 := by
  revert w; decide

theorem owns_before (c : Dev nD) (w : Fin 16) (hw : w ≠ 15) (t : Fin cfg1.N) (d : (cfg1.win w).block.Idx → Elt F (cfg1.win w).elt) :
    (owns (c : Thread nD τ) ((cfg1.win w).stage (cfg1.slots t w)) fullShare ((dat V c).before w t d) : sProp 𝕄)
      ⊢ owns (c : Thread nD τ) ((cfg1.win w).stage (cfg1.slots t w)) fullShare ((dat V c).after w t) := by
  rw [before_in V c w hw t d]

/-- The body's obligation at every point: the windows' buffers taken apart, the dense layers run on them. -/
theorem body_obligation (c : Dev nD) : BodyObligation (dat V c) (defs₀ (F := F)) 𝒱₀ (none : HIx 1) Set.univ := fun t => by
  rw [bigSep_W1, bigSep_W1]
  rw [show (dat V c).Φ t.castSucc = Φc c from rfl, show (dat V c).Φ t.succ = Φc c from rfl,
    show (dat V c).owesAt none t.succ = (dat V c).owesAt none t.castSucc from rfl]
  dsimp only
  rw [show (defs₀ (F := F)) .tc cfg1.body (cfg1.bodyArgs t (cfg1.slots t)) = bodyAt1 t from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (wp_dense c (grid1.coords t) _ _ _ _ _ _ _ _ _ _ _ _ _ _ _ _ _ _ _ _ _ _ _ _ _ _ _ _ _ _ _ _
    (stg V c 0 t) (stg V c 1 t) (stg V c 2 t) (stg V c 3 t) (stg V c 4 t) (stg V c 5 t) (stg V c 6 t) (stg V c 7 t)
    (stg V c 8 t) (stg V c 9 t) (stg V c 10 t) (stg V c 11 t) (stg V c 12 t) (stg V c 13 t) (stg V c 14 t) Set.univ _)
  isplitr [HΦ Howes H15]
  · isplitl [H0]; · iapply (owns_before V c 0 (by decide) t d0); iexact H0
    isplitl [H1]; · iapply (owns_before V c 1 (by decide) t d1); iexact H1
    isplitl [H2]; · iapply (owns_before V c 2 (by decide) t d2); iexact H2
    isplitl [H3]; · iapply (owns_before V c 3 (by decide) t d3); iexact H3
    isplitl [H4]; · iapply (owns_before V c 4 (by decide) t d4); iexact H4
    isplitl [H5]; · iapply (owns_before V c 5 (by decide) t d5); iexact H5
    isplitl [H6]; · iapply (owns_before V c 6 (by decide) t d6); iexact H6
    isplitl [H7]; · iapply (owns_before V c 7 (by decide) t d7); iexact H7
    isplitl [H8]; · iapply (owns_before V c 8 (by decide) t d8); iexact H8
    isplitl [H9]; · iapply (owns_before V c 9 (by decide) t d9); iexact H9
    isplitl [H10]; · iapply (owns_before V c 10 (by decide) t d10); iexact H10
    isplitl [H11]; · iapply (owns_before V c 11 (by decide) t d11); iexact H11
    isplitl [H12]; · iapply (owns_before V c 12 (by decide) t d12); iexact H12
    isplitl [H13]; · iapply (owns_before V c 13 (by decide) t d13); iexact H13
    iapply (owns_before V c 14 (by decide) t d14); iexact H14
  isplitl [H15]; · iexists _; iexact H15
  iintro ⟨⟨H0, H1, H2, H3, H4, H5, H6, H7, H8, H9, H10, H11, H12, H13, H14⟩, H15⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The result's array after the region. -/
def outArr (c : Dev nD) : Buf (Elt F) ((c : Thread nD τ).loc main_v5) := (dat V c).arrAt 15 cfg1.N

variable (adm : (p : Fin 1) → (pcfgs (F := F) p).Adm)

/-- The proof data of the one pipeline. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

set_option backward.isDefEq.respectTransparency.types false in
/-- The region over the thread state "every unscoped buffer at `V c`, and what the core owes": entered by splitting the
    windows' arrays out of the unscoped buffers, left with them put back at `Vp`. -/
def reg (hVp_out : ∀ c, Vp c main_v5 = outArr V c) (hVp_ne : ∀ c (b : Ref sig .tc), b ≠ main_v5 → Vp c b = V c b) :
    Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        by_cases h15 : w = 15
        · subst h15; exact (hVp_out c).symm
        · exact ((pdats V adm 0 c).arrAt_in w (isIn w h15) _).trans (hVp_ne c _ (arrRef_ne w h15)).symm)
      (fun b hb => hVp_ne c b fun h => hb (h ▸ Finset.mem_image.mpr ⟨15, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Ker

end
-- ==== Proof.Main.lean ====
/-
  The program on the TensorCore: the reshape of the list, the SparseCore call, the reshapes of the biases, the dense layers'
  region, and the reshape of the result, over every unscoped buffer held whole.
-/
module

public import proofs.«01_k».proof.Proof.Call
public import proofs.«01_k».proof.Proof.Region

@[expose] public section

noncomputable section

namespace Cert.Proof.Ker

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- No table is read ahead. -/
abbrev adm : (p : Fin 1) → (pcfgs (F := F) p).Adm := fun p => (cfgs p).toPCfg_adm

variable (m : (ℓ : Loc nD τ sig) → Buf (Elt F) ℓ) (ρ : Dev nD → PrngReg)

/-! ## The host's operations, and the buffers' contents along the way -/

abbrev opIdx : HloOp τ sig (Elt F) := StableHlo.reshape main_arg8 main_v0 (rfl : (.i32 : EltTy) = .i32) shapeCasts_S16384x50_S32x25600
abbrev opB1 : HloOp τ sig (Elt F) := StableHlo.reshape main_arg11 main_v2 (rfl : (.f32 : EltTy) = .f32) shapeCasts_S64_S1x64
abbrev opB2 : HloOp τ sig (Elt F) := StableHlo.reshape main_arg13 main_v3 (rfl : (.f32 : EltTy) = .f32) shapeCasts_S32_S1x32
abbrev opB3 : HloOp τ sig (Elt F) := StableHlo.reshape main_arg15 main_v4 (rfl : (.f32 : EltTy) = .f32) shapeCasts_S1_S1x1
abbrev opOut : HloOp τ sig (Elt F) := StableHlo.reshape main_v5 main_v6 (rfl : (.f32 : EltTy) = .f32) shapeCasts_S16384_S16384x1

def V0 (d : Dev nD) : Valuation τ sig (Elt F) := fun b => m (d, b)
def V1 (d : Dev nD) : Valuation τ sig (Elt F) := (opIdx (F := F)).result (V0 m d)

def tb (d : Dev nD) : Buf (Elt F) (tabLoc d) := m (tabLoc d)
def ib (d : Dev nD) : Buf (Elt F) (idxLoc d) := V1 m d (Proc.devRef .tc main_v0)
def ob (d : Dev nD) : Buf (Elt F) (outLoc d) := m (outLoc d)

def V2 (d : Dev nD) : Valuation τ sig (Elt F) := Function.update (V1 m d) (Proc.devRef .tc main_v1) (poolBuf (tb m d) (ib m d))
def V3 (d : Dev nD) : Valuation τ sig (Elt F) := (opB3 (F := F)).result ((opB2 (F := F)).result ((opB1 (F := F)).result (V2 m d)))
abbrev V3' (c : Dev nD) (b : Ref sig .tc) : Buf (Elt F) ((c : Thread nD τ).loc b) := V3 m c (Proc.devRef .tc b)
def V4 (d : Dev nD) : Valuation τ sig (Elt F) := Function.update (V3 m d) (Proc.devRef .tc main_v5) (outArr (V3' m) d)
abbrev V4' (c : Dev nD) (b : Ref sig .tc) : Buf (Elt F) ((c : Thread nD τ).loc b) := V4 m c (Proc.devRef .tc b)
def V5 (d : Dev nD) : Valuation τ sig (Elt F) := (opOut (F := F)).result (V4 m d)

theorem devRef_ne {a b : Ref sig .tc} (h : a ≠ b) : (Proc.devRef .tc a : DevRef τ sig) ≠ Proc.devRef .tc b :=
  StableHlo.devRef_ne_of_ne h

theorem V4_out (d : Dev nD) : V4' m d main_v5 = outArr (V3' m) d := Function.update_self ..
theorem V4_ne (d : Dev nD) (b : Ref sig .tc) (h : b ≠ main_v5) : V4' m d b = V3' m d b := Function.update_of_ne (devRef_ne h) ..

/-! ## The region, as the program enters it -/

theorem hinj (adm : (p : Fin 1) → (pcfgs (F := F) p).Adm) :
    Function.Injective (Pipeline.cellOf (nD := nD) (τ := τ) (Pipeline.pin (pcfgs (F := F)) adm)) := cellOf_inj

theorem wp_entry [∀ e, Nonempty (Elt F e)] (adm : (p : Fin 1) → (pcfgs (F := F) p).Adm) (V Vp : (c : Dev nD) → (b : Ref sig .tc) → Buf (Elt F) ((c : Thread nD τ).loc b))
    (hVp_out : ∀ c, Vp c main_v5 = outArr V c) (hVp_ne : ∀ c (b : Ref sig .tc), b ≠ main_v5 → Vp c b = V c b) (d : Dev nD) (Q : PUnit → sProp 𝕄) :
    iprop((iprop(boundary (d.tc : Thread nD τ) ∗ unscopedBufs d (Vp d) ∗ ∃ W, owes (d.tc : Thread nD τ) (0 : CellTallies nD τ sig (HIx 1)) W) -∗ wp frame (wpE (D (F := F)) 𝒱 (d.tc : Thread nD τ) none) Set.univ (.ret ⟨⟩) Q)
        ∗ boundary (d.tc : Thread nD τ) ∗ (unscopedBufs d (V d) ∗ ∃ W, owes (d.tc : Thread nD τ) (0 : CellTallies nD τ sig (HIx 1)) W)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ
          (.op (.customCall (Pipeline.entry 0) ()) .ret) Q := by
  have h := Pipeline.RegionSeg.wp (pcfgs (F := F)) adm (pdats V adm) (none : HIx 1) (hinj adm) EP defs₀ 𝒱₀ (K (F := F)).L (K (F := F)).lev (p := 0)
    (reg V adm Vp hVp_out hVp_ne) d none (fun _ h => nomatch h) (α := PUnit) .ret Q
  exact h

/-- The call of the dense layers' region, as the program makes it. -/
theorem wp_region [∀ e, Nonempty (Elt F e)] (adm : (p : Fin 1) → (pcfgs (F := F) p).Adm) (V Vp : (c : Dev nD) → (b : Ref sig .tc) → Buf (Elt F) ((c : Thread nD τ).loc b))
    (hVp_out : ∀ c, Vp c main_v5 = outArr V c) (hVp_ne : ∀ c (b : Ref sig .tc), b ≠ main_v5 → Vp c b = V c b) (d : Dev nD) (Q : PUnit → sProp 𝕄) :
    iprop((iprop(boundary (d.tc : Thread nD τ) ∗ unscopedBufs d (Vp d) ∗ ∃ W, owes (d.tc : Thread nD τ) (0 : CellTallies nD τ sig (HIx 1)) W) -∗ Q ⟨⟩)
        ∗ boundary (d.tc : Thread nD τ) ∗ (unscopedBufs d (V d) ∗ ∃ W, owes (d.tc : Thread nD τ) (0 : CellTallies nD τ sig (HIx 1)) W)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (d.tc : Thread nD τ) none) Set.univ
          (Prog.lift (.customCall (SparseCore.inner (Pipeline.entry 0)) ())) Q := by
  have hlift := (K (F := F)).wp_liftProg (D (F := F)) 𝒱 (d.tc : Thread nD τ) (Set.univ : Set ℕ) none (.op (.customCall (Pipeline.entry 0) ()) .ret) Q
  have hent := wp_entry adm V Vp hVp_out hVp_ne d Q
  iintro ⟨HK, Hb, Hpre, Hlv, Hc, Ht⟩
  iapply hlift
  iapply hent
  isplitl [HK]
  · iintro H
    rw [wp_ret]; imodintro
    iapply HK; iexact H
  isplitl [Hb]; · iexact Hb
  isplitl [Hpre]; · iexact Hpre
  isplitl [Hlv]; · iexact Hlv
  isplitl [Hc]; · iexact Hc
  iexact Ht

/-! ## The call's three operands, out of the buffers held -/

abbrev callRefs : Finset (DevRef τ sig) := {Proc.devRef .tc main_v0, Proc.devRef .tc main_arg9, Proc.devRef .tc main_v1}

theorem mem_ucRefs {b : Ref sig .tc} (h : b.isScoped = false) : (Proc.devRef .tc b : DevRef τ sig) ∈ ucRefs :=
  Finset.mem_filter.mpr ⟨StableHlo.devRef_mem_tcRefs b, by rw [show (Proc.devRef .tc b : DevRef τ sig).isScoped = b.isScoped from rfl, h]; exact Bool.false_ne_true⟩

theorem callRefs_sub : callRefs ⊆ ucRefs := fun b hb => by
  rcases Finset.mem_insert.mp hb with rfl | hb; · exact mem_ucRefs rfl
  rcases Finset.mem_insert.mp hb with rfl | hb; · exact mem_ucRefs rfl
  rw [Finset.mem_singleton.mp hb]; exact mem_ucRefs rfl

theorem held_call (d : Dev nD) (V : Valuation τ sig (Elt F)) :
    (StableHlo.held (d.tc : Thread nD τ) ucRefs V : sProp 𝕄)
      = iprop(((idxLoc d ↦{fullShare} V (Proc.devRef .tc main_v0)) ∗ (tabLoc d ↦{fullShare} V (Proc.devRef .tc main_arg9)) ∗ (outLoc d ↦{fullShare} V (Proc.devRef .tc main_v1)))
          ∗ StableHlo.held (d.tc : Thread nD τ) (ucRefs \ callRefs) V) := by
  rw [StableHlo.held_sub_split (d.tc : Thread nD τ) callRefs_sub V]
  congr 1
  unfold StableHlo.held callRefs
  rw [SparseCore.bigSep_insert' (by decide), SparseCore.bigSep_insert' (by decide), bigSep_singleton]

end Cert.Proof.Ker

end
-- ==== Proof.Launch.lean ====
/-
  The launch: the program on the TensorCore from what the launch deals it, and the whole program's run, every unscoped
  buffer's final contents named.
-/
module

public import proofs.«01_k».proof.Proof.Main

@[expose] public section

noncomputable section

namespace Cert.Proof.Ker

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## One host operation -/

theorem wp_host (d : Dev nD) {hp : (d.tc : Thread nD τ).2.kind.runsHlo = true} (op : HloOp τ sig (Elt F)) (hS : op.bufs ⊆ ucRefs) (hf : op.fresh = ∅)
    (V V' : Valuation τ sig (Elt F)) (hV : op.result V = V') (Q : PUnit → sProp 𝕄) :
    iprop(boundary (d.tc : Thread nD τ) ∗ StableHlo.held (d.tc : Thread nD τ) ucRefs V
        ∗ (iprop(boundary (d.tc : Thread nD τ) ∗ StableHlo.held (d.tc : Thread nD τ) ucRefs V') -∗ Q ⟨⟩))
      ⊢ wp frame (wpE ((K (F := F)).defs (D (F := F))) 𝒱 (d.tc : Thread nD τ) none) Set.univ (hlo hp op (fun _ => .ret ⟨⟩)) Q := by
  subst hV
  iintro ⟨Hb, Hh, HK⟩
  iapply (StableHlo.wp_hlo_within (defs := (K (F := F)).defs (D (F := F))) 𝒱 (d.tc : Thread nD τ) none Set.univ (hp := hp) (op := op) (k := fun _ => .ret ⟨⟩) hS (V := V) (Q := Q) hf) $$ [Hb Hh]
  · isplitl [Hb]; · iexact Hb
    iexact Hh
  iintro H
  rw [wp_ret]; imodintro
  iapply HK; iexact H

/-! ## What the TensorCore owes after its one SparseCore call -/

theorem Otc_one (d : Dev nD) : (K (F := F)).Otc d 1 = 0 := by
  unfold SparseCore.Cfg.Otc
  exact Finset.sum_eq_zero fun q _ => if_neg (by omega)

theorem wBelow_one (d : Dev nD) (W : Waits sig (HIx 1)) : (K (F := F)).WBelow (T d) W (8 * 1) := by
  rintro ⟨sm, ι⟩ _
  match ι with
  | none => exact Nat.zero_le _
  | some q => exact ((K (F := F)).lev_some_le _ q).trans (by have := q.isLt; omega)

/-- What the TensorCore owes, taken out of its state after the call and put back. -/
theorem tcSt_one (d : Dev nD) :
    ((K (F := F)).tcSt EH d ((0 : Fin 1).val + 1) : sProp 𝕄) ⊢ iprop((∃ W, owes (d.tc : Thread nD τ) (0 : CellTallies nD τ sig (HIx 1)) W)
      ∗ ((∃ W, owes (d.tc : Thread nD τ) (0 : CellTallies nD τ sig (HIx 1)) W) -∗ (K (F := F)).tcSt EH d 1)) := by
  show ((K (F := F)).tcSt EH d 1 : sProp 𝕄) ⊢ _
  unfold SparseCore.Cfg.tcSt
  rw [Otc_one]
  iintro ⟨⟨%W, -, HO⟩, Hrest⟩
  isplitl [HO]
  · iexists W; iexact HO
  iintro ⟨%W', HO⟩
  isplitl [HO]
  · iexists W'
    isplitr
    · ipureintro; exact wBelow_one d W'
    iexact HO
  iexact Hrest

/-! ## The program on the TensorCore -/

theorem bufs_sub {x y : Ref sig .tc} (he : x.ty.elt = y.ty.elt) (hn : x.ty.shape.ShapeCasts y.ty.shape) (hx : x.isScoped = false) (hy : y.isScoped = false)
    (hx' hy') : (StableHlo.reshape (τ := τ) (Val := Elt F) x y he hn hx' hy').bufs ⊆ ucRefs := by
  rw [StableHlo.reshape_bufs]
  intro b hb
  rcases Finset.mem_insert.mp hb with rfl | hb
  · exact mem_ucRefs hx
  · rw [Finset.mem_singleton.mp hb]; exact mem_ucRefs hy

theorem V1_tab (d : Dev nD) : V1 m d (Proc.devRef .tc main_arg9) = tb m d := by
  unfold V1; exact StableHlo.reshape_result_ne main_arg8 main_v0 _ _ _ _ _ (by decide)
theorem V1_out (d : Dev nD) : V1 m d (Proc.devRef .tc main_v1) = ob m d := by
  unfold V1; exact StableHlo.reshape_result_ne main_arg8 main_v0 _ _ _ _ _ (by decide)

theorem held_V1 (d : Dev nD) : (StableHlo.held (d.tc : Thread nD τ) ucRefs (V1 m d) : sProp 𝕄)
      = iprop(((idxLoc d ↦{fullShare} ib m d) ∗ (tabLoc d ↦{fullShare} tb m d) ∗ (outLoc d ↦{fullShare} ob m d))
          ∗ StableHlo.held (d.tc : Thread nD τ) (ucRefs \ callRefs) (V1 m d)) := by
  rw [held_call, V1_tab, V1_out]; rfl

theorem held_V2 (d : Dev nD) : (StableHlo.held (d.tc : Thread nD τ) ucRefs (V2 m d) : sProp 𝕄)
      = iprop(((idxLoc d ↦{fullShare} ib m d) ∗ (tabLoc d ↦{fullShare} tb m d) ∗ (outLoc d ↦{fullShare} poolBuf (tb m d) (ib m d)))
          ∗ StableHlo.held (d.tc : Thread nD τ) (ucRefs \ callRefs) (V1 m d)) := by
  have h0 : V2 m d (Proc.devRef .tc main_v0) = ib m d := Function.update_of_ne (devRef_ne (by decide)) ..
  have h9 : V2 m d (Proc.devRef .tc main_arg9) = tb m d := (Function.update_of_ne (devRef_ne (by decide)) ..).trans (V1_tab m d)
  have h1 : V2 m d (Proc.devRef .tc main_v1) = poolBuf (tb m d) (ib m d) := Function.update_self ..
  have hr : (StableHlo.held (d.tc : Thread nD τ) (ucRefs \ callRefs) (V2 m d) : sProp 𝕄) = StableHlo.held (d.tc : Thread nD τ) (ucRefs \ callRefs) (V1 m d) :=
    StableHlo.held_congr _ fun b hb => by
      have hne : b ≠ Proc.devRef .tc main_v1 := by
        rintro rfl
        exact (Finset.mem_sdiff.mp hb).2 (Finset.mem_insert_of_mem (Finset.mem_insert_of_mem (Finset.mem_singleton_self _)))
      exact Function.update_of_ne hne ..
  rw [held_call, h0, h9, h1, hr]

theorem st_eq (d : Dev nD) : (bigSep Finset.univ fun c : Fin ((K (F := F)).nCore 0) => (P (tb m) (ib m) (ob m)).st 0 d c)
    = iprop((idxLoc d ↦{fullShare} ib m d) ∗ (tabLoc d ↦{fullShare} tb m d) ∗ (outLoc d ↦{fullShare} ob m d)) :=
  cores_eq (tb m) (ib m) d (ob m d)
theorem dn_eq (d : Dev nD) : (bigSep Finset.univ fun c : Fin ((K (F := F)).nCore 0) => (P (tb m) (ib m) (ob m)).dn 0 d c)
    = iprop((idxLoc d ↦{fullShare} ib m d) ∗ (tabLoc d ↦{fullShare} tb m d) ∗ (outLoc d ↦{fullShare} poolBuf (tb m d) (ib m d))) :=
  cores_eq (tb m) (ib m) d (poolBuf (tb m d) (ib m d))

/-- What the launch deals the TensorCore for the dense layers' region. -/
abbrev G (adm : (p : Fin 1) → (pcfgs (F := F) p).Adm) (d : Dev nD) : sProp 𝕄 :=
  iprop(Pipeline.cellsGhost (Pipeline.pin (pcfgs (F := F)) adm) EP 0 d ∗ Pipeline.toksInit (Pipeline.pin (pcfgs (F := F)) adm) EP 0 d)

/-- What the TensorCore keeps to the end. -/
abbrev FIN (d : Dev nD) : sProp 𝕄 := StableHlo.held (d.tc : Thread nD τ) ucRefs (V5 m d)

/-- The call of the dense layers, between the valuations the program has there. -/
theorem wp_dense_call [∀ e, Nonempty (Elt F e)] (adm : (p : Fin 1) → (pcfgs (F := F) p).Adm) (d : Dev nD) (Q : PUnit → sProp 𝕄) :
    iprop((iprop(boundary (d.tc : Thread nD τ) ∗ StableHlo.held (d.tc : Thread nD τ) ucRefs (V4 m d) ∗ ∃ W, owes (d.tc : Thread nD τ) (0 : CellTallies nD τ sig (HIx 1)) W) -∗ Q ⟨⟩)
        ∗ boundary (d.tc : Thread nD τ) ∗ (StableHlo.held (d.tc : Thread nD τ) ucRefs (V3 m d) ∗ ∃ W, owes (d.tc : Thread nD τ) (0 : CellTallies nD τ sig (HIx 1)) W)
        ∗ levAts (K (F := F)).L (K (F := F)).lev ∗ G adm d)
      ⊢ wp frame (wpE ((K (F := F)).defs (D (F := F))) 𝒱 (d.tc : Thread nD τ) none) Set.univ
          (Prog.lift (.customCall (SparseCore.inner (Pipeline.entry 0)) ())) Q := by
  rw [← unscopedBufs_held d (V4 m d), ← unscopedBufs_held d (V3 m d)]
  exact wp_region adm (V3' m) (V4' m) (V4_out m) (V4_ne m) d Q

theorem hmain [∀ e, Nonempty (Elt F e)] (adm : (p : Fin 1) → (pcfgs (F := F) p).Adm) (κ : GSem nD τ sig → ℕ) (d : Dev nD) :
    iprop((K (F := F)).ctx EH (P (tb m) (ib m) (ob m)) κ ∗ (K (F := F)).tcSt EH d 0 ∗ (K (F := F)).tcRes m ρ d ∗ G adm d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) ucRefs (V0 m d) from unscopedBufs_held d (V0 m d)]
  simp only [main, wp_bind, wp_pure]
  iintro ⟨#Hctx, Hst, ⟨Hb, Hbufs, Hts, -⟩, HG⟩
  iapply (wp_host d (opIdx (F := F)) (bufs_sub _ _ rfl rfl _ _) rfl (V0 m d) (V1 m d) rfl)
  isplitl [Hb]; · iexact Hb
  isplitl [Hbufs]; · iexact Hbufs
  iintro ⟨Hb, Hbufs⟩
  ihave Hbufs' := (Entails.of_eq (held_V1 m d)) $$ Hbufs
  icases Hbufs' with ⟨Hcall, Hrest⟩
  iapply ((K (F := F)).wp_run (D (F := F)) 𝒱 (EH := EH) (P := P (tb m) (ib m) (ob m)) κ d 0) $$ [Hst Hcall Hb Hrest Hts HG]
  isplitr; · iexact Hctx
  isplitl [Hst]; · iexact Hst
  isplitl [Hcall]; · rw [st_eq]; iexact Hcall
  iintro ⟨Hst, Hdn⟩
  ihave Hdn' := (Entails.of_eq (dn_eq m d)) $$ Hdn
  ihave Hbufs := (Entails.of_eq (held_V2 m d).symm) $$ [Hdn' Hrest]
  · isplitl [Hdn']; · iexact Hdn'
    iexact Hrest
  iapply (wp_host d (opB1 (F := F)) (bufs_sub _ _ rfl rfl _ _) rfl (V2 m d) ((opB1 (F := F)).result (V2 m d)) rfl)
  isplitl [Hb]; · iexact Hb
  isplitl [Hbufs]; · iexact Hbufs
  iintro ⟨Hb, Hbufs⟩
  iapply (wp_host d (opB2 (F := F)) (bufs_sub _ _ rfl rfl _ _) rfl ((opB1 (F := F)).result (V2 m d)) ((opB2 (F := F)).result ((opB1 (F := F)).result (V2 m d))) rfl)
  isplitl [Hb]; · iexact Hb
  isplitl [Hbufs]; · iexact Hbufs
  iintro ⟨Hb, Hbufs⟩
  iapply (wp_host d (opB3 (F := F)) (bufs_sub _ _ rfl rfl _ _) rfl ((opB2 (F := F)).result ((opB1 (F := F)).result (V2 m d))) (V3 m d) rfl)
  isplitl [Hb]; · iexact Hb
  isplitl [Hbufs]; · iexact Hbufs
  iintro ⟨Hb, Hbufs⟩
  ihave Hst' := (tcSt_one d) $$ Hst
  icases Hst' with ⟨HO, Hback⟩
  iapply (wp_dense_call m adm d)
  isplitl [Hback Hts]
  · iintro ⟨Hb, Hbufs, HO⟩
    iapply (wp_host d (opOut (F := F)) (bufs_sub _ _ rfl rfl _ _) rfl (V4 m d) (V5 m d) rfl)
    isplitl [Hb]; · iexact Hb
    isplitl [Hbufs]; · iexact Hbufs
    iintro ⟨Hb, Hbufs⟩
    imodintro
    isplitl [Hback HO]
    · iapply Hback; iexact HO
    isplitl [Hbufs]; · iexact Hbufs
    isplitl [Hb]; · iexact Hb
    iexact Hts
  isplitl [Hb]; · iexact Hb
  isplitl [Hbufs HO]
  · isplitl [Hbufs]; · iexact Hbufs
    iexact HO
  isplitr; · iapply (SparseCore.Cfg.ctx_levAts κ); iexact Hctx
  iexact HG

/-! ## The launch's ghost state, the final memory, and the run -/

def u₀ (adm : (p : Fin 1) → (pcfgs (F := F) p).Adm) : UU :=
  (initOf (K (F := F)).hsCells (K (F := F)).hsToks,
    (initOf (Pipeline.cells (nD := nD) (τ := τ) (Pipeline.pin (pcfgs (F := F)) adm) (hinj adm)) (Pipeline.launchToks (Pipeline.pin (pcfgs (F := F)) adm) (hinj adm)), 1))

theorem ghost_one (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

theorem bigSep_emp' {I : Type} (s : Finset I) : (bigSep s fun _ => iprop(emp)) = (iprop(emp) : sProp 𝕄) := bigSep_emp_const s

theorem hu₀ (adm : (p : Fin 1) → (pcfgs (F := F) p).Adm) : (ownU (u₀ (F := F) adm) : sProp 𝕄)
    ⊢ |={Set.univ}=> iprop(BI.own (EH (initOf (K (F := F)).hsCells (K (F := F)).hsToks)) ∗ (bigSep Finset.univ fun d : Dev nD => G adm d)
        ∗ bigSep Finset.univ fun thr : Thread nD τ => bigSep Finset.univ fun q : Fin 1 => (P (tb m) (ib m) (ob m)).x q thr) := by
  unfold u₀
  iintro Hu
  ihave H := (ownU_split (F := F) _ _) $$ Hu
  icases H with ⟨HH, HP⟩
  ihave HG := (Pipeline.fund_ghost (Pipeline.pin (pcfgs (F := F)) adm) EP (hinj adm)) $$ HP
  imod HG
  icases HG with ⟨Hc, Ht⟩
  imodintro
  isplitl [HH]; · iexact HH
  isplitl [Hc Ht]
  · rw [bigSep_sep']
    isplitl [Hc]
    · iapply (Entails.of_eq (ghost_one fun p c => Pipeline.cellsGhost (Pipeline.pin (pcfgs (F := F)) adm) EP p c)); iexact Hc
    · iapply (Entails.of_eq (ghost_one fun p c => Pipeline.toksInit (Pipeline.pin (pcfgs (F := F)) adm) EP p c)); iexact Ht
  rw [show (bigSep Finset.univ fun thr : Thread nD τ => bigSep Finset.univ fun q : Fin 1 => (P (tb m) (ib m) (ob m)).x q thr) = bigSep Finset.univ fun _ => iprop(emp) from
    bigSep_congr fun _ _ => bigSep_univ_of_subsingleton (0 : Fin 1), bigSep_emp']
  iempintro

/-- Every unscoped buffer of the TensorCore ends at what the program's operations make of the launch memory. -/
def fq (d : Dev nD) (s' : Phys nD τ sig (Elt F)) : Prop := ∀ b ∈ ucRefs, s'.mem.mem (d, b) = V5 m d b

theorem hfin (d : Dev nD) (s' : Phys nD τ sig (Elt F)) : iprop(FIN m d ∗ SI s') ⊢ (⌜fq m d s'⌝ : sProp 𝕄) := by
  refine (Idealize.ShloMosaic.pointsTo_read_all ucRefs (fun b => ((d, b) : Loc nD τ sig)) (fun b => V5 m d b) s').trans ?_
  iintro ⟨%h, -⟩
  ipureintro; exact h

def QC : PUnit × MemSt nD τ sig (Elt F) → Prop := fun r => (∀ d : Dev nD, ∀ b ∈ ucRefs, r.2.mem (d, b) = V5 m d b) ∧ r.2.sem = fun _ => 0

theorem run_adm [∀ e, Nonempty (Elt F e)] (adm : (p : Fin 1) → (pcfgs (F := F) p).Adm) (hpre : ∀ d (x : S32x25600.Idx), BitVec.toNat (ib m d x) < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tb m) (ib m) (ob m)) (A := ∅) facts v₀
    (fun q hq => match q with | 0 => nomatch hq)
    (fun q _ => match q with | 0 => tileObl (tb m) (ib m) (ob m) facts hpre)
    (fun q _ => match q with | 0 => SparseCore.Cfg.VecSplit.of_plain (vecSplit (tb m) (ib m) (ob m)))
    m ρ main (G adm) (FIN m) (u₀ (F := F) adm) (sep_elim_left.trans (hu₀ m adm)) (hmain m ρ adm) (fq m) (hfin m) (QC m) (fun _ h hz => ⟨h, hz⟩)

theorem run_main [∀ e, Nonempty (Elt F e)] (hpre : ∀ d (x : S32x25600.Idx), BitVec.toNat (ib m d x) < 1000000) :
    θ_run (Cert.KernelIdeal.defs (F := F)) (Cert.KernelIdeal.threads (F := F)) ⟨m, fun _ => 0, ρ⟩ (QC m) :=
  run_adm m ρ adm hpre

end Cert.Proof.Ker

end
-- ==== Proof.Frame.lean ====
/-
  The kernel's frame: from indices that name rows of the table, the run's final memory leaves every argument as it was.
-/
module

public import proofs.«01_k».proof.Proof.Launch
public import proofs.«01_k».proof.Defs
public import proofs.«01_k».proof.Proof.Gen.Pre_in_range

@[expose] public section

noncomputable section

namespace Cert.Proof.Ker

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The references the program's host operations and calls write. -/
abbrev written : List (Ref sig .tc) := [main_v0, main_v1, main_v2, main_v3, main_v4, main_v5, main_v6]

/-- A buffer nothing writes ends as it started. -/
theorem V5_kept (d : Dev nD) (b : Ref sig .tc) (hb : b ∉ written) : V5 m d (Proc.devRef .tc b) = m ((d.tc : Thread nD τ).loc b) := by
  simp only [written, List.mem_cons, List.not_mem_nil, _root_.or_false, not_or] at hb
  obtain ⟨h0, h1, h2, h3, h4, h5, h6⟩ := hb
  unfold V5
  refine (StableHlo.reshape_result_ne _ _ _ _ _ _ _ h6).trans ?_
  refine (V4_ne m d b h5).trans ?_
  show V3 m d (Proc.devRef .tc b) = _
  unfold V3
  refine (StableHlo.reshape_result_ne _ _ _ _ _ _ _ h4).trans ?_
  refine (StableHlo.reshape_result_ne _ _ _ _ _ _ _ h3).trans ?_
  refine (StableHlo.reshape_result_ne _ _ _ _ _ _ _ h2).trans ?_
  refine (Function.update_of_ne (devRef_ne h1) ..).trans ?_
  unfold V1
  exact StableHlo.reshape_result_ne _ _ _ _ _ _ _ h0

/-- The list the SparseCore reads holds the indices, in another order. -/
theorem ib_mem (d : Dev nD) (x : S32x25600.Idx) : ∃ y, ib m d x = m ((d.tc : Thread nD τ).loc main_arg8) y := by
  have h : ib m d = fun i => shapeCast S32x25600 (m ((d.tc : Thread nD τ).loc main_arg8)) shapeCasts_S16384x50_S32x25600 i := by
    show (opIdx (F := F)).result (V0 m d) (Proc.devRef .tc main_v0) = _
    exact StableHlo.reshape_result _ _ _ _ _ _ _
  rw [h]
  exact ⟨_, rfl⟩

/-- A word the mask passes names a row. -/
theorem row_of_mask (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem ok_of_pre (m : (ℓ : Loc nD τ sig) → Buf (Elt Ideal) ℓ) (h : Cert.Pre_KernelIdeal (hPre_in_range := Cert.Pre_in_range.Gen.facts) m) (d : Dev nD) (y : S16384x50.Idx) :
    BitVec.toNat (m ((d.tc : Thread nD τ).loc main_arg8) y) < 1000000 := by
  have e := congrFun (h d) y
  simp only [Cert.Pre_in_range.fn, andi, cmpi, broadcastInDim, constantI] at e
  exact row_of_mask _ e

theorem ib_of_pre (m : (ℓ : Loc nD τ sig) → Buf (Elt Ideal) ℓ) (h : Cert.Pre_KernelIdeal (hPre_in_range := Cert.Pre_in_range.Gen.facts) m) (d : Dev nD) (x : S32x25600.Idx) :
    BitVec.toNat (ib m d x) < 1000000 := by
  obtain ⟨y, hy⟩ := ib_mem m d x
  rw [hy]; exact ok_of_pre m h d y

theorem kept (r : PUnit × MemSt nD τ sig (Elt F)) (h : QC m r) (c : Dev nD) (b : Ref sig .tc) (hs : b.isScoped = false) (hb : b ∉ written) :
    r.2.mem ((c.tc : Thread nD τ).loc b) = m ((c.tc : Thread nD τ).loc b) :=
  (h.1 c _ (mem_ucRefs hs)).trans (V5_kept m c b hb)

theorem frame_kernel : Cert.quiescent_KernelIdeal (hKernelIdeal := Cert.KernelIdeal.Gen.facts) (hPre_in_range := Cert.Pre_in_range.Gen.facts) := fun m ρ hpre =>
  (θ_run Cert.KernelIdeal.defs _ _).mono (fun r h =>
    ⟨fun c => ⟨kept m r h c main_arg0 rfl (by decide), kept m r h c main_arg1 rfl (by decide), kept m r h c main_arg2 rfl (by decide),
      kept m r h c main_arg3 rfl (by decide), kept m r h c main_arg4 rfl (by decide), kept m r h c main_arg5 rfl (by decide),
      kept m r h c main_arg6 rfl (by decide), kept m r h c main_arg7 rfl (by decide), kept m r h c main_arg8 rfl (by decide),
      kept m r h c main_arg9 rfl (by decide), kept m r h c main_arg10 rfl (by decide), kept m r h c main_arg11 rfl (by decide),
      kept m r h c main_arg12 rfl (by decide), kept m r h c main_arg13 rfl (by decide), kept m r h c main_arg14 rfl (by decide),
      kept m r h c main_arg15 rfl (by decide)⟩, h.2⟩)
    (run_main (F := Ideal) m ρ (ib_of_pre m hpre))

end Cert.Proof.Ker

end
-- ==== Proof.Bits.Pool.lean ====
/-
  The pooling of one embedding row, as a program of its own: fifty rows of a chunk buffer loaded one after the other
  and added into four rotating partial sums, and the scaled total stored into one row of the pooled buffer. The kernel
  writes this out four times, once for each of its chunk buffers; each of the four is shown to be this program.
-/
module

public import proofs.«01_k».proof.Defs
public import proofs.«01_k».proof.Proof.Gen.Kernel
public import proofs.«01_k».proof.Proof.Gen.Kernel.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Bit

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The factor the total is scaled by. -/
def invC : F .f32 := Scalar.ofBits .f32 0x3CA3D70A#32

/-- One row added to a partial sum. -/
abbrev addRow (a : FVec F S16 .f32) (x : Vec F S1x16 .f32) : FVec F S16 .f32 := addf a (shapeCast S16 x shapeCasts_S1x16_S16)

/-- A partial sum before any row. -/
abbrev acc0 : FVec F S16 .f32 := broadcast S16 (Scalar.ofBits .f32 0x00000000#32)

/-- The scaled total of the four partial sums after fifty rows (they have rotated by two places). -/
abbrev accOut (a0 a1 a2 a3 : FVec F S16 .f32) : FVec F S1x16 .f32 :=
  shapeCast S1x16 (mulf (addf (addf a2 a3) (addf a0 a1)) (broadcast S16 invC)) shapeCasts_S16_S1x16

/-- A program of vector subcore `L`. -/
abbrev PV (F : FTy → Type) (L : grid0.Coords) :=
  Prog (TpuEff nD τ sig (Elt F) Λ₀ (.scVector ((L 0).castLE hcore0) ((L 1).castLE hsub0)))

section
variable (L : grid0.Coords) (g : Memref sig .scVector .vmem S800x16 .f32)
  (off : BitVec 32 → Fin 2 → ℕ) (inb : ∀ r : Fin 50, ∀ a, off (BitVec.ofNat 32 r.val) a + S1x16.size a ≤ S800x16.size a)

/-- Rows `j`, `j + 1`, … of the fifty, `n` of them, into the partial sums; the row goes into the first of them, which
    becomes the last. -/
def poolFrom : (n : ℕ) → (j : ℕ) → j + n = 50 → (a0 a1 a2 a3 : FVec F S16 .f32) → PV F L (FVec F S1x16 .f32)
  | 0, _, _, a0, a1, a2, a3 => Pure.pure (accOut a0 a1 a2 a3)
  | n + 1, j, h, a0, a1, a2, a3 => do
    let x : Vec F S1x16 .f32 ← Prog.lift (.load g (Rect.unit (s := S800x16) (off (BitVec.ofNat 32 j)) S1x16.size (inb ⟨j, by omega⟩)).toLoadRect (View.loadsAt_vmem h_S1x16))
    poolFrom n (j + 1) (by omega) a1 a2 a3 (addRow a0 x)

/-- The pooling of one row into the pooled buffer's row at `off'`. -/
def poolRow (p : Memref sig .scVector .vmem S512x16 .f32) (off' : Fin 2 → ℕ) (inb' : ∀ a, off' a + S1x16.size a ≤ S512x16.size a) : PV F L (BitVec 32) := do
  let v ← poolFrom L g off inb 50 0 rfl acc0 acc0 acc0 acc0
  let _x : Vec F S1x16 .f32 ← Prog.lift (.load p (Rect.unit (s := S512x16) off' S1x16.size inb').toLoadRect (View.loadsAt_vmem h_S1x16))
  Prog.lift (.store p (Rect.unit (s := S512x16) off' S1x16.size inb') v Finset.univ (View.stores_vmem_bits_univ h_S1x16 rfl) (.inl rfl))
  Pure.pure 0#32
end

end Cert.Proof.Bit

end
-- ==== Proof.Bits.PoolEq.lean ====
/-
  The bodies of the kernel's four accumulation loops, one for each chunk buffer, are the pooling of one row.
-/
module

public import proofs.«01_k».proof.Proof.Bits.Pool

@[expose] public section

noncomputable section

namespace Cert.Proof.Bit

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section
variable (i : grid0.Coords) (arg2 : Memref sig .scVector .hbm S1000000x16 .f32) (harg2 : arg2.IsWhole) (arg3 : Memref sig .scVector .hbm S32x25600 .i32) (harg3 : arg3.IsWhole) (arg4 : Memref sig .scVector .hbm S16384x16 .f32) (harg4 : arg4.IsWhole) (arg5 : Memref sig .scVector .vmem S25600 .i32) (harg5 : arg5.IsWhole) (arg6 : Memref sig .scVector .vmem S800x16 .f32) (harg6 : arg6.IsWhole) (arg7 : Memref sig .scVector .vmem S800x16 .f32) (harg7 : arg7.IsWhole) (arg8 : Memref sig .scVector .vmem S800x16 .f32) (harg8 : arg8.IsWhole) (arg9 : Memref sig .scVector .vmem S800x16 .f32) (harg9 : arg9.IsWhole) (arg10 : Memref sig .scVector .vmem S512x16 .f32) (harg10 : arg10.IsWhole) (arg11 arg12 arg13 arg14 v13_r0 v13_r1 : DmaSems sig S_)

set_option maxRecDepth 65536 in
set_option maxHeartbeats 4000000 in
theorem t2_body_eq (c0 c1 : BitVec 32) (t1 : Fin k0_t1_loop.trips) :
    k0_t2_body (F := F) i arg2 harg2 arg3 harg3 arg4 harg4 arg5 harg5 arg6 harg6 arg7 harg7 arg8 harg8 arg9 harg9 arg10 harg10 arg11 arg12 arg13 arg14 v13_r0 v13_r1 c0 c1 t1
      = fun k _ => poolRow i arg6 (k0_off3 k) (k0_off3_inb k) arg10 (k0_off4 t1 k) (k0_off4_inb t1 k) := rfl

set_option maxRecDepth 65536 in
set_option maxHeartbeats 4000000 in
theorem t3_body_eq (c0 c1 : BitVec 32) (t1 : Fin k0_t1_loop.trips) :
    k0_t3_body (F := F) i arg2 harg2 arg3 harg3 arg4 harg4 arg5 harg5 arg6 harg6 arg7 harg7 arg8 harg8 arg9 harg9 arg10 harg10 arg11 arg12 arg13 arg14 v13_r0 v13_r1 c0 c1 t1
      = fun k _ => poolRow i arg7 (k0_off6 k) (k0_off6_inb k) arg10 (k0_off7 t1 k) (k0_off7_inb t1 k) := rfl

set_option maxRecDepth 65536 in
set_option maxHeartbeats 4000000 in
theorem t4_body_eq (t1 : Fin k0_t1_loop.trips) :
    k0_t4_body (F := F) i arg2 harg2 arg3 harg3 arg4 harg4 arg5 harg5 arg6 harg6 arg7 harg7 arg8 harg8 arg9 harg9 arg10 harg10 arg11 arg12 arg13 arg14 v13_r0 v13_r1 t1
      = fun k _ => poolRow i arg8 (k0_off9 k) (k0_off9_inb k) arg10 (k0_off10 t1 k) (k0_off10_inb t1 k) := rfl

set_option maxRecDepth 65536 in
set_option maxHeartbeats 4000000 in
theorem t5_body_eq (t1 : Fin k0_t1_loop.trips) :
    k0_t5_body (F := F) i arg2 harg2 arg3 harg3 arg4 harg4 arg5 harg5 arg6 harg6 arg7 harg7 arg8 harg8 arg9 harg9 arg10 harg10 arg11 arg12 arg13 arg14 v13_r0 v13_r1 t1
      = fun k _ => poolRow i arg9 (k0_off12 k) (k0_off12_inb k) arg10 (k0_off13 t1 k) (k0_off13_inb t1 k) := rfl

end

end Cert.Proof.Bit

end
-- ==== Proof.Bits.TaskEq.lean ====
/-
  A vector subcore's task as the transfers and the loop it is made of.
-/
module

public import proofs.«01_k».proof.Proof.Bits.Tile

@[expose] public section

noncomputable section

namespace Cert.Proof.Bit

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section
variable (L : grid0.Coords)

set_option maxRecDepth 65536 in
/-- The task, its two plain transfers each in one piece. -/
theorem task_eq : cc0_gather_pool (F := F) L tV (Memref.isWhole_whole _) iV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1
    = ((((Prog.lift (.enqueueDma (iRowK L) (.here sV) (.dma cc0_scoped0.sem) ((View.wordExact_bits rfl).reshape _ _) (Memref.isWhole_whole cc0_scratch0).wordExact ⟨Or.inl rfl, trivial⟩) : PV F L PUnit) >>= fun _ =>
          (Prog.lift (.waitDma2 cc0_scoped0.sem (iRowK L) sV ((View.wordExact_bits rfl).reshape _ _) (Memref.isWhole_whole cc0_scratch0).wordExact) : PV F L PUnit)) >>= fun _ =>
        SparseCore.enqueueIndirectGather rfl (tblK tV) (Memref.whole cc0_scratch1 : Memref sig .scVector .vmem S800x16 .f32) gathers_S1000000x16_S800x16 (offsAt sV ![0] inb_S25600_S800_0) rfl cc0_scratch6.sem (View.wordExact_bits rfl) rfl (Or.inl rfl) >>= fun _ =>
        SparseCore.enqueueIndirectGather rfl (tblK tV) (Memref.whole cc0_scratch2 : Memref sig .scVector .vmem S800x16 .f32) gathers_S1000000x16_S800x16 (offsAt sV ![800] inb_S25600_S800_800) rfl cc0_scratch7.sem (View.wordExact_bits rfl) rfl (Or.inl rfl) >>= fun _ =>
        SparseCore.enqueueIndirectGather rfl (tblK tV) (Memref.whole cc0_scratch3 : Memref sig .scVector .vmem S800x16 .f32) gathers_S1000000x16_S800x16 (offsAt sV ![1600] inb_S25600_S800_1600) rfl cc0_scratch8.sem (View.wordExact_bits rfl) rfl (Or.inl rfl) >>= fun _ =>
        SparseCore.enqueueIndirectGather rfl (tblK tV) (Memref.whole cc0_scratch4 : Memref sig .scVector .vmem S800x16 .f32) gathers_S1000000x16_S800x16 (offsAt sV ![2400] inb_S25600_S800_2400) rfl cc0_scratch9.sem (View.wordExact_bits rfl) rfl (Or.inl rfl) >>= fun _ =>
        Scf.Loop.for k0_t1_loop k0_t1_ok 0#32 (k0_t1_body L tV (Memref.isWhole_whole _) iV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1) >>= fun _ =>
        ((Prog.lift (.enqueueDma pV (.here (oRowK L)) (.dma cc0_scoped1.sem) (Memref.isWhole_whole cc0_scratch5).wordExact (View.wordExact_bits rfl) ⟨Or.inl rfl, trivial⟩) : PV F L PUnit) >>= fun _ =>
          (Prog.lift (.waitDma2 cc0_scoped1.sem pV (oRowK L) (Memref.isWhole_whole cc0_scratch5).wordExact (View.wordExact_bits rfl)) : PV F L PUnit))) : PV F L PUnit) := by
  rw [cc0_gather_pool_eq_skeleton]
  unfold cc0_gather_pool_skel
  rw [k0_part30_eq_skeleton]
  unfold k0_part30_skel
  simp only [bind_assoc, pure_bind]
  rfl

end

end Cert.Proof.Bit

end
-- ==== Proof.Bits.Frame.lean ====
/-
  The kernel's frame: from indices that name rows of the table, the run's final memory leaves every argument as it was.
-/
module

public import proofs.«01_k».proof.Proof.Bits.Launch
public import proofs.«01_k».proof.Defs
public import proofs.«01_k».proof.Proof.Gen.Pre_in_range

@[expose] public section

noncomputable section

namespace Cert.Proof.Bit

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The references the program's host operations and calls write. -/
abbrev written : List (Ref sig .tc) := [main_v0, main_v1, main_v2, main_v3, main_v4, main_v5, main_v6]

/-- A buffer nothing writes ends as it started. -/
theorem V5_kept (d : Dev nD) (b : Ref sig .tc) (hb : b ∉ written) : V5 m d (Proc.devRef .tc b) = m ((d.tc : Thread nD τ).loc b) := by
  simp only [written, List.mem_cons, List.not_mem_nil, _root_.or_false, not_or] at hb
  obtain ⟨h0, h1, h2, h3, h4, h5, h6⟩ := hb
  unfold V5
  refine (StableHlo.reshape_result_ne _ _ _ _ _ _ _ h6).trans ?_
  refine (V4_ne m d b h5).trans ?_
  show V3 m d (Proc.devRef .tc b) = _
  unfold V3
  refine (StableHlo.reshape_result_ne _ _ _ _ _ _ _ h4).trans ?_
  refine (StableHlo.reshape_result_ne _ _ _ _ _ _ _ h3).trans ?_
  refine (StableHlo.reshape_result_ne _ _ _ _ _ _ _ h2).trans ?_
  refine (Function.update_of_ne (devRef_ne h1) ..).trans ?_
  unfold V1
  exact StableHlo.reshape_result_ne _ _ _ _ _ _ _ h0

/-- The list the SparseCore reads holds the indices, in another order. -/
theorem ib_mem (d : Dev nD) (x : S32x25600.Idx) : ∃ y, ib m d x = m ((d.tc : Thread nD τ).loc main_arg8) y := by
  have h : ib m d = fun i => shapeCast S32x25600 (m ((d.tc : Thread nD τ).loc main_arg8)) shapeCasts_S16384x50_S32x25600 i := by
    show (opIdx (F := F)).result (V0 m d) (Proc.devRef .tc main_v0) = _
    exact StableHlo.reshape_result _ _ _ _ _ _ _
  rw [h]
  exact ⟨_, rfl⟩

/-- A word the mask passes names a row. -/
theorem row_of_mask (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem ok_of_pre (m : (ℓ : Loc nD τ sig) → Buf (Elt Bits) ℓ) (h : Cert.Pre_Kernel (hPre_in_range := Cert.Pre_in_range.Gen.facts) m) (d : Dev nD) (y : S16384x50.Idx) :
    BitVec.toNat (m ((d.tc : Thread nD τ).loc main_arg8) y) < 1000000 := by
  have e := congrFun (h d) y
  simp only [Cert.Pre_in_range.fn, andi, cmpi, broadcastInDim, constantI] at e
  exact row_of_mask _ e

theorem ib_of_pre (m : (ℓ : Loc nD τ sig) → Buf (Elt Bits) ℓ) (h : Cert.Pre_Kernel (hPre_in_range := Cert.Pre_in_range.Gen.facts) m) (d : Dev nD) (x : S32x25600.Idx) :
    BitVec.toNat (ib m d x) < 1000000 := by
  obtain ⟨y, hy⟩ := ib_mem m d x
  rw [hy]; exact ok_of_pre m h d y

theorem kept (r : PUnit × MemSt nD τ sig (Elt F)) (h : QC m r) (c : Dev nD) (b : Ref sig .tc) (hs : b.isScoped = false) (hb : b ∉ written) :
    r.2.mem ((c.tc : Thread nD τ).loc b) = m ((c.tc : Thread nD τ).loc b) :=
  (h.1 c _ (mem_ucRefs hs)).trans (V5_kept m c b hb)

theorem frame_kernel : Cert.quiescent_Kernel (hKernel := Cert.Kernel.Gen.facts) (hPre_in_range := Cert.Pre_in_range.Gen.facts) := fun m ρ hpre =>
  (θ_run Cert.Kernel.defs _ _).mono (fun r h =>
    ⟨fun c => ⟨kept m r h c main_arg0 rfl (by decide), kept m r h c main_arg1 rfl (by decide), kept m r h c main_arg2 rfl (by decide),
      kept m r h c main_arg3 rfl (by decide), kept m r h c main_arg4 rfl (by decide), kept m r h c main_arg5 rfl (by decide),
      kept m r h c main_arg6 rfl (by decide), kept m r h c main_arg7 rfl (by decide), kept m r h c main_arg8 rfl (by decide),
      kept m r h c main_arg9 rfl (by decide), kept m r h c main_arg10 rfl (by decide), kept m r h c main_arg11 rfl (by decide),
      kept m r h c main_arg12 rfl (by decide), kept m r h c main_arg13 rfl (by decide), kept m r h c main_arg14 rfl (by decide),
      kept m r h c main_arg15 rfl (by decide)⟩, h.2⟩)
    (run_main (F := Bits) m ρ (ib_of_pre m hpre))

end Cert.Proof.Bit

end
-- ==== Proof.Ref.lean ====
/-
  The reference's frame, from its generated run: it changes no argument and has no semaphore.
-/
module

public import proofs.«01_k».proof.Defs
public import proofs.«01_k».proof.Proof.Gen.ReferenceIdeal.Run
public import proofs.«01_k».proof.Proof.Gen.Pre_in_range

@[expose] public section

noncomputable section

namespace Cert.Proof

open Idealize.ShloMosaic Idealize.SL.Sem

theorem frame_ref : Cert.quiescent_ReferenceIdeal (hReferenceIdeal := Cert.ReferenceIdeal.Gen.facts) := fun m ρ _ =>
  (θ_run Cert.ReferenceIdeal.defs _ _).mono (fun r h => ⟨fun c => (h c).2, funext fun s => nomatch s.2⟩) (Cert.ReferenceIdeal.Value.run (F := Ideal) m ρ)

theorem frame_ref_in_range : Cert.quiescent_ReferenceIdeal_pre_in_range (hReferenceIdeal := Cert.ReferenceIdeal.Gen.facts) (hPre_in_range := Cert.Pre_in_range.Gen.facts) := fun m ρ _ =>
  (θ_run Cert.ReferenceIdeal.defs _ _).mono (fun r h => ⟨fun c => (h c).2, funext fun s => nomatch s.2⟩) (Cert.ReferenceIdeal.Value.run (F := Ideal) m ρ)

end Cert.Proof

end
-- ==== Proof.Layers.lean ====
/-
  The layers on one row, as sums over the extended reals, and what the dense block makes of a row.
-/
module

public import proofs.«01_k».proof.Proof.Dense
public import Idealize.ShloMosaic.Lib.Pointwise

@[expose] public section

noncomputable section

namespace Cert.Proof.Ker

open Idealize.ShloMosaic
open Cert.KernelIdeal Cert.KernelIdeal.Gen

/-- The first layer before its rectifier, column `j`, of a row's eight scalars and its pooled embedding `p`. -/
def hid (s0 s1 s2 s3 s4 s5 s6 s7 : EReal) (p : Fin 16 → EReal) (W : S24x64.Idx → EReal) (b : Fin 64 → EReal) (j : Fin 64) : EReal :=
  ∑ x : Fin 16, p x * W (ix2 ⟨8 + x.val, by omega⟩ j) + b j + s0 * W (ix2 0 j) + s1 * W (ix2 1 j) + s2 * W (ix2 2 j) + s3 * W (ix2 3 j)
    + s4 * W (ix2 4 j) + s5 * W (ix2 5 j) + s6 * W (ix2 6 j) + s7 * W (ix2 7 j)

/-- The rectifier, the two layers after it and the squashing, of the first layer's row `h`. -/
def net (h : Fin 64 → EReal) (W2 : S64x32.Idx → EReal) (b2 : Fin 32 → EReal) (W3 : S32x1.Idx → EReal) (b3 : EReal) : EReal :=
  Ideal.logistic (∑ x, (∑ y, (if 0 ≤ h y then h y else Ideal.ofBits .f32 0x3A83126F#32 * h y) * W2 (ix2 y x) + b2 x) * W3 (ix2 x 0) + b3)

set_option maxRecDepth 16384 in
/-- Row `k` of the dense block. -/
theorem dense_at (X1 X2 X3 X4 X5 X6 X7 X8 : Vec Ideal S4096 .f32) (X9 : Vec Ideal S4096x16 .f32) (X10 : Vec Ideal S24x64 .f32)
    (X11 : Vec Ideal S1x64 .f32) (X12 : Vec Ideal S64x32 .f32) (X13 : Vec Ideal S1x32 .f32) (X14 : Vec Ideal S32x1 .f32)
    (X15 : Vec Ideal S1x1 .f32) (k : Fin 4096) :
    dense X1 X2 X3 X4 X5 X6 X7 X8 X9 X10 X11 X12 X13 X14 X15 (ix1 k)
      = net (hid (X1 (ix1 k)) (X2 (ix1 k)) (X3 (ix1 k)) (X4 (ix1 k)) (X5 (ix1 k)) (X6 (ix1 k)) (X7 (ix1 k)) (X8 (ix1 k))
          (fun e => X9 (ix2 k e)) X10 fun j => X11 (ix2 0 j)) X12 (fun x => X13 (ix2 0 x)) X14 (X15 (ix2 0 0)) := by
  pointwise [dense, wRow, k1_pay1, k1_pay2, k1_pay3, k1_pay4, k1_pay5]
  rfl

end Cert.Proof.Ker
-- ==== Proof.Rows.lean ====
/-
  The dense call's result, row by row, from the arrays it reads.
-/
module

public import proofs.«01_k».proof.Proof.Region
public import proofs.«01_k».proof.Proof.Layers

@[expose] public section

noncomputable section

namespace Cert.Proof.Ker

open Idealize.ShloMosaic
open Idealize.ShloMosaic.TcCoe
open Idealize.ShloMosaic.Pipeline
open Cert.KernelIdeal Cert.KernelIdeal.Gen

variable (V : (c : Dev nD) → (b : Ref sig .tc) → Buf (Elt Ideal) ((c : Thread nD τ).loc b))

/-- Row `k` of block `t`. -/
abbrev rowAt (t : Fin cfg1.N) (k : Fin 4096) : Fin 16384 := ⟨4096 * t.val + k.val, by have : t.val < 4 := t.isLt; omega⟩

theorem emb_vec (t : Fin cfg1.N) (k : Fin 4096) : (win1_0.rect t).emb (ix1 k) = ix1 (rowAt t k) := by
  funext a
  match a with
  | ⟨0, _⟩ =>
    refine Fin.ext ((Window.rect_emb_val win1_0 t (ix1 k) 0).trans ?_)
    have h : ∀ t : Fin 4, win1_0.index t 0 = t.val := by decide
    rw [h t]
    show t.val * 4096 + k.val = 4096 * t.val + k.val
    omega

theorem emb_mat (t : Fin cfg1.N) (k : Fin 4096) (e : Fin 16) : (win1_8.rect t).emb (ix2 k e) = ix2 (rowAt t k) e := by
  funext a
  match a with
  | ⟨0, _⟩ =>
    refine Fin.ext ((Window.rect_emb_val win1_8 t (ix2 k e) 0).trans ?_)
    have h : ∀ t : Fin 4, win1_8.index t 0 = t.val := by decide
    rw [h t]
    show t.val * 4096 + k.val = 4096 * t.val + k.val
    omega
  | ⟨1, _⟩ => exact Fin.ext (Window.rect_emb_val_of_index_zero win1_8 t 1 rfl (ix2 k e))

/-- A window whose index map is zero everywhere reads its array as it is. -/
theorem emb_zero (w : Window sig grid1) (t : Fin grid1.N) (h : ∀ a, w.index t a = 0) (y : (w.xblock (grid1.coords t)).Idx) (a : Fin w.shape.rank) :
    ((w.rect t).emb y a : ℕ) = y a := Window.rect_emb_val_of_index_zero w t a (h a) y

theorem whole9 (c : Dev nD) (t : Fin cfg1.N) : stg V c 9 t = V c main_arg10 :=
  funext fun y => congrArg (V c main_arg10) (funext fun a => Fin.ext (emb_zero win1_9 t (by intro a; fin_cases a <;> rfl) y a))

theorem whole10 (c : Dev nD) (t : Fin cfg1.N) : stg V c 10 t = V c main_v2 :=
  funext fun y => congrArg (V c main_v2) (funext fun a => Fin.ext (emb_zero win1_10 t (by intro a; fin_cases a <;> rfl) y a))

theorem whole11 (c : Dev nD) (t : Fin cfg1.N) : stg V c 11 t = V c main_arg12 :=
  funext fun y => congrArg (V c main_arg12) (funext fun a => Fin.ext (emb_zero win1_11 t (by intro a; fin_cases a <;> rfl) y a))

theorem whole12 (c : Dev nD) (t : Fin cfg1.N) : stg V c 12 t = V c main_v3 :=
  funext fun y => congrArg (V c main_v3) (funext fun a => Fin.ext (emb_zero win1_12 t (by intro a; fin_cases a <;> rfl) y a))

theorem whole13 (c : Dev nD) (t : Fin cfg1.N) : stg V c 13 t = V c main_arg14 :=
  funext fun y => congrArg (V c main_arg14) (funext fun a => Fin.ext (emb_zero win1_13 t (by intro a; fin_cases a <;> rfl) y a))

theorem whole14 (c : Dev nD) (t : Fin cfg1.N) : stg V c 14 t = V c main_v4 :=
  funext fun y => congrArg (V c main_v4) (funext fun a => Fin.ext (emb_zero win1_14 t (by intro a; fin_cases a <;> rfl) y a))

/-- A row of the dense call's result, of the arrays' rows. -/
def rowOut (c : Dev nD) (r : Fin 16384) : EReal :=
  net (hid (V c main_arg0 (ix1 r)) (V c main_arg1 (ix1 r)) (V c main_arg2 (ix1 r)) (V c main_arg3 (ix1 r)) (V c main_arg4 (ix1 r))
      (V c main_arg5 (ix1 r)) (V c main_arg6 (ix1 r)) (V c main_arg7 (ix1 r)) (fun e => V c main_v1 (ix2 r e)) (V c main_arg10)
      fun j => V c main_v2 (ix2 0 j)) (V c main_arg12) (fun x => V c main_v3 (ix2 0 x)) (V c main_arg14) (V c main_v4 (ix2 0 0))

theorem outBlk_at (c : Dev nD) (t : Fin cfg1.N) (k : Fin 4096) : outBlk V c t (ix1 k) = rowOut V c (rowAt t k) := by
  unfold outBlk
  rw [dense_at, whole9, whole10, whole11, whole12, whole13, whole14]
  unfold rowOut
  have e0 : stg V c 0 t (ix1 k) = V c main_arg0 (ix1 (rowAt t k)) := congrArg (V c main_arg0) (emb_vec t k)
  have e1 : stg V c 1 t (ix1 k) = V c main_arg1 (ix1 (rowAt t k)) := congrArg (V c main_arg1) (emb_vec t k)
  have e2 : stg V c 2 t (ix1 k) = V c main_arg2 (ix1 (rowAt t k)) := congrArg (V c main_arg2) (emb_vec t k)
  have e3 : stg V c 3 t (ix1 k) = V c main_arg3 (ix1 (rowAt t k)) := congrArg (V c main_arg3) (emb_vec t k)
  have e4 : stg V c 4 t (ix1 k) = V c main_arg4 (ix1 (rowAt t k)) := congrArg (V c main_arg4) (emb_vec t k)
  have e5 : stg V c 5 t (ix1 k) = V c main_arg5 (ix1 (rowAt t k)) := congrArg (V c main_arg5) (emb_vec t k)
  have e6 : stg V c 6 t (ix1 k) = V c main_arg6 (ix1 (rowAt t k)) := congrArg (V c main_arg6) (emb_vec t k)
  have e7 : stg V c 7 t (ix1 k) = V c main_arg7 (ix1 (rowAt t k)) := congrArg (V c main_arg7) (emb_vec t k)
  have e8 : (fun e => stg V c 8 t (ix2 k e)) = fun e => V c main_v1 (ix2 (rowAt t k) e) := funext fun e => congrArg (V c main_v1) (emb_mat t k e)
  rw [e0, e1, e2, e3, e4, e5, e6, e7, e8]

/-- The dense call's result. -/
theorem outArr_eq (c : Dev nD) : outArr V c = fun i => rowOut V c (i 0) := by
  refine (dat V c).arrAt_eq_of_cover 15 (fun i => rowOut V c (i 0)) (fun t _ => funext fun y => ?_) fun i => ?_
  · show outBlk V c t y = rowOut V c ((win1_0.rect t).emb y 0)
    obtain ⟨k, rfl⟩ : ∃ k : Fin 4096, y = ix1 k := ⟨y 0, eq_ix1 y⟩
    rw [emb_vec]; exact outBlk_at V c t k
  · obtain ⟨r, rfl⟩ : ∃ r : Fin 16384, i = ix1 r := ⟨i 0, eq_ix1 i⟩
    refine ⟨⟨r.val / 4096, by show _ < 4; omega⟩, flush1_15 _, ?_⟩
    have h : (win1_0.rect ⟨r.val / 4096, by show _ < 4; omega⟩).emb (ix1 ⟨r.val % 4096, by omega⟩) = ix1 r :=
      (emb_vec _ _).trans (congrArg ix1 (Fin.ext (by show 4096 * (r.val / 4096) + r.val % 4096 = r.val; omega)))
    rw [← h]
    exact ((cfg1.win 15).blk _).view.emb_mem_set _

end Cert.Proof.Ker
-- ==== Proof.Mean.lean ====
/-
  The pooled rows, as means.
-/
module

public import proofs.«01_k».proof.Proof.Parts
public import Idealize.ShloMosaic.Lib.Pointwise
public import Idealize.ShloMosaic.PureOps.IdealRules

@[expose] public section

noncomputable section

namespace Cert.Proof.Ker

open Idealize.ShloMosaic
open Cert.KernelIdeal Cert.KernelIdeal.Gen

theorem invC_eq : (invC : Ideal .f32) = ((1 / 50 : ℝ) : EReal) := IdealRules.named_const.ideal_named_scalar _ _ _ _ rfl

/-- Fifty, as the reference's constant denotes it. -/
theorem fifty : Ideal.ofBits .f32 0x42480000#32 = ((50 : ℝ) : EReal) := by
  simp [Ideal.ofBits, Ideal.ieee, -EReal.coe_mul]
  norm_num

/-- The rotating partial sums add up to the sum of the rows. -/
theorem poolSum_at (R : Fin 50 → FVec Ideal S16 .f32) (y : S16.Idx) : ∀ (n j : ℕ) (h : j + n = 50) (a0 a1 a2 a3 : FVec Ideal S16 .f32),
    poolSum R n j h a0 a1 a2 a3 y = (a0 y + a1 y + a2 y + a3 y + ∑ i : Fin n, R ⟨j + i.val, by omega⟩ y) * ((1 / 50 : ℝ) : EReal)
  | 0, j, h, a0, a1, a2, a3 => by
    show ((a2 y + a3 y) + (a0 y + a1 y)) * invC = _
    rw [invC_eq, Fin.sum_univ_zero, add_zero]
    congr 1
    ac_rfl
  | n + 1, j, h, a0, a1, a2, a3 => by
    show poolSum R n (j + 1) _ a1 a2 a3 (addf a0 (R ⟨j, by omega⟩)) y = _
    rw [poolSum_at R y n (j + 1), Fin.sum_univ_succ]
    show (a1 y + a2 y + a3 y + (a0 y + R ⟨j, by omega⟩ y) + _) * _ = _
    have e : (∑ i : Fin n, R ⟨j + 1 + i.val, by omega⟩ y) = ∑ i : Fin n, R ⟨j + i.succ.val, by simp; omega⟩ y :=
      Finset.sum_congr rfl fun i _ => congrArg (fun z => R z y) (Fin.ext (by simp; omega))
    rw [e]
    congr 1
    show _ = a0 y + a1 y + a2 y + a3 y + (R ⟨j, by omega⟩ y + _)
    ac_rfl

/-- A pooled row is the mean of its fifty rows. -/
theorem pooled_at (R : Fin 50 → FVec Ideal S16 .f32) (y : S16.Idx) :
    pooled R y = Ideal.div (∑ j, R j y) (Ideal.ofBits .f32 0x42480000#32) := by
  unfold pooled
  rw [poolSum_at, fifty, Ideal.div_coe (by norm_num)]
  have z : (acc0 : FVec Ideal S16 .f32) y = 0 := Ideal.ofBits_zero_f32
  have e : (∑ i : Fin 50, R ⟨0 + i.val, by omega⟩ y) = ∑ j, R j y :=
    Finset.sum_congr rfl fun i _ => congrArg (fun z => R z y) (Fin.ext (by simp))
  rw [z, e]
  simp only [add_zero, zero_add]

/-- A pooled row, from the index lists and the table. -/
theorem poolBuf_at (T : Vec Ideal S1000000x16 .f32) (I : Vec Ideal S32x25600 .i32) (J : Vec Ideal S16384x50 .i32)
    (hI : I = fun i => shapeCast S32x25600 J shapeCasts_S16384x50_S32x25600 i) (r : Fin 16384) (e : Fin 16)
    (h : ∀ j, BitVec.toNat (J (ix2 r j)) < 1000000) :
    poolBuf T I (ix2 r e) = Ideal.div (∑ j : Fin 50, T (ix2 ⟨BitVec.toNat (J (ix2 r j)), h j⟩ e)) (Ideal.ofBits .f32 0x42480000#32) := by
  subst hI
  unfold poolBuf rowVal
  rw [pooled_at]
  congr 1
  refine Finset.sum_congr rfl fun j _ => ?_
  have hx : listOf (fun i => shapeCast S32x25600 J shapeCasts_S16384x50_S32x25600 i) ⟨r.val / 512, by omega⟩
      (ix1 ⟨50 * (r.val % 512) + j.val, by omega⟩) = J (ix2 r j) := by
    unfold listOf
    refine shapeCast_apply _ _ _ _ ?_
    rw [Shape.rowMajor_val_two, Shape.rowMajor_val_two]
    show r.val * 50 + j.val = (r.val / 512) * 25600 + (50 * (r.val % 512) + j.val)
    omega
  show tblAt T (BitVec.toNat (listOf _ _ (ix1 _))) e = _
  refine (congrArg (fun v : BitVec 32 => tblAt T v.toNat e) hx).trans ?_
  exact dif_pos (h j)

end Cert.Proof.Ker
-- ==== Proof.RefRow.lean ====
/-
  The reference's result, read at a row.
-/
module

public import proofs.«01_k».proof.Proof.Layers
public import proofs.«01_k».proof.Proof.Gen.ReferenceIdeal.Run
public import Idealize.ShloMosaic.Lib.Pointwise
public import Idealize.ShloMosaic.Lib.WordCmp

@[expose] public section

noncomputable section

namespace Cert.Proof.Ker.Refn

open Idealize.ShloMosaic
open Cert.ReferenceIdeal Cert.ReferenceIdeal.Gen Cert.ReferenceIdeal.Value

/-- The indices as the lookup takes them: a negative one counts from the table's end. -/
def wrapIx (I : IVec S16384x50 32) : IVec S16384x50 32 :=
  select (cmpi .slt I (broadcastInDim S16384x50 ![] bcast_S_S16384x50 (constantI S_ 32 0#32))) (addi I (broadcastInDim S16384x50 ![] bcast_S_S16384x50 (constantI S_ 32 1000000#32))) I

/-- Which indices lie in the table. -/
def okIx (J : IVec S16384x50 32) : IVec S16384x50 1 :=
  Host.reduce IntOp.andi (andi (cmpi .sge (broadcastInDim S16384x50x1 ![0, 1] bcast_S16384x50_S16384x50x1_0_1 J) (broadcastInDim S16384x50x1 ![] bcast_S_S16384x50x1 (constantI S_ 32 0#32))) (cmpi .sle (broadcastInDim S16384x50x1 ![0, 1] bcast_S16384x50_S16384x50x1_0_1 J) (broadcastInDim S16384x50x1 ![0, 1, 2] bcast_S1x1x1_S16384x50x1_0_1_2 (broadcastInDim S1x1x1 ![2] bcast_S1_S1x1x1_2 (constantI S1 32 999999#32))))) (constantI S_ 1 1#1) reducesTo_S16384x50x1_S16384x50_d2 h_S_

/-- The pooled rows: the mean over the fifty looked-up rows. -/
def refPool (T : FVec Ideal S1000000x16 .f32) (I : IVec S16384x50 32) : FVec Ideal S16384x16 .f32 :=
  Host.divf (Host.reduceAdd (select (broadcastInDim S16384x50x16 ![0, 1] bcast_S16384x50_S16384x50x16_0_1 (okIx (wrapIx I))) (Host.gather gather_S1000000x16_S16384x50x1_S16384x50x16_2_0_n_n_0_2_116 T (broadcastInDim S16384x50x1 ![0, 1] bcast_S16384x50_S16384x50x1_0_1 (wrapIx I))) (broadcastInDim S16384x50x16 ![] bcast_S_S16384x50x16 (constant S_ .f32 0x7FC00000#32))) (constant S_ .f32 0x00000000#32) reducesTo_S16384x50x16_S16384x16_d1 h_S_) (broadcastInDim S16384x16 ![] bcast_S_S16384x16 (constant S_ .f32 0x42480000#32))

/-- The first layer before its rectifier. -/
def refHid (a0 a1 a2 a3 a4 a5 a6 a7 : FVec Ideal S16384 .f32) (P : FVec Ideal S16384x16 .f32) (W1 : FVec Ideal S24x64 .f32)
    (b1 : FVec Ideal S64 .f32) : FVec Ideal S16384x64 .f32 :=
  addf (Host.dotGeneral dot_S16384x24_S24x64_S16384x64_1_0_0_1_n_n none (concatenate S16384x24 1 [⟨S16384x8, ((concatenate S16384x8 1 [⟨S16384x1, ((broadcastInDim S16384x1 ![0] bcast_S16384_S16384x1_0 a0) : (⟨S16384x1, .f32⟩ : BufTy).Contents (Elt Ideal))⟩, ⟨S16384x1, ((broadcastInDim S16384x1 ![0] bcast_S16384_S16384x1_0 a1) : (⟨S16384x1, .f32⟩ : BufTy).Contents (Elt Ideal))⟩, ⟨S16384x1, ((broadcastInDim S16384x1 ![0] bcast_S16384_S16384x1_0 a2) : (⟨S16384x1, .f32⟩ : BufTy).Contents (Elt Ideal))⟩, ⟨S16384x1, ((broadcastInDim S16384x1 ![0] bcast_S16384_S16384x1_0 a3) : (⟨S16384x1, .f32⟩ : BufTy).Contents (Elt Ideal))⟩, ⟨S16384x1, ((broadcastInDim S16384x1 ![0] bcast_S16384_S16384x1_0 a4) : (⟨S16384x1, .f32⟩ : BufTy).Contents (Elt Ideal))⟩, ⟨S16384x1, ((broadcastInDim S16384x1 ![0] bcast_S16384_S16384x1_0 a5) : (⟨S16384x1, .f32⟩ : BufTy).Contents (Elt Ideal))⟩, ⟨S16384x1, ((broadcastInDim S16384x1 ![0] bcast_S16384_S16384x1_0 a6) : (⟨S16384x1, .f32⟩ : BufTy).Contents (Elt Ideal))⟩, ⟨S16384x1, ((broadcastInDim S16384x1 ![0] bcast_S16384_S16384x1_0 a7) : (⟨S16384x1, .f32⟩ : BufTy).Contents (Elt Ideal))⟩] concatenates_S16384x1_S16384x1_S16384x1_S16384x1_S16384x1_S16384x1_S16384x1_S16384x1_S16384x8_d1 : (⟨S16384x8, .f32⟩ : BufTy).Contents (Elt Ideal)))⟩, ⟨S16384x16, P⟩] concatenates_S16384x8_S16384x16_S16384x24_d1) W1) (broadcastInDim S16384x64 ![0, 1] bcast_S1x64_S16384x64_0_1 (broadcastInDim S1x64 ![1] bcast_S64_S1x64_1 b1))

/-- The rest of the reference, from the first layer's rows. -/
def refOut (H : FVec Ideal S16384x64 .f32) (W2 : FVec Ideal S64x32 .f32) (b2 : FVec Ideal S32 .f32) (W3 : FVec Ideal S32x1 .f32)
    (b3 : FVec Ideal S1 .f32) : FVec Ideal S16384x1 .f32 :=
  Host.divf (broadcastInDim S16384x1 ![] bcast_S_S16384x1 (constant S_ .f32 0x3F800000#32)) (addf (broadcastInDim S16384x1 ![] bcast_S_S16384x1 (constant S_ .f32 0x3F800000#32)) (Host.exp (Host.negf (addf (Host.dotGeneral dot_S16384x32_S32x1_S16384x1_1_0_0_1_n_n none (addf (Host.dotGeneral dot_S16384x64_S64x32_S16384x32_1_0_0_1_n_n none (select (cmpf .oge H (broadcastInDim S16384x64 ![] bcast_S_S16384x64 (constant S_ .f32 0x00000000#32))) H (mulf (broadcastInDim S16384x64 ![] bcast_S_S16384x64 (constant S_ .f32 0x3A83126F#32)) H)) W2) (broadcastInDim S16384x32 ![0, 1] bcast_S1x32_S16384x32_0_1 (broadcastInDim S1x32 ![1] bcast_S32_S1x32_1 b2))) W3) (broadcastInDim S16384x1 ![0, 1] bcast_S1x1_S16384x1_0_1 (broadcastInDim S1x1 ![1] bcast_S1_S1x1_1 b3))))))

set_option maxRecDepth 16384 in
/-- The generated term is its stages put together. -/
theorem res_eq (m : (ℓ : Loc nD τ sig) → Buf (Elt Ideal) ℓ) (c : Dev nD) :
    res_main_v36 m c = refOut (refHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (refPool (m ((c.tc : Thread nD τ).loc main_arg9)) (m ((c.tc : Thread nD τ).loc main_arg8)))
      (m ((c.tc : Thread nD τ).loc main_arg10)) (m ((c.tc : Thread nD τ).loc main_arg11))) (m ((c.tc : Thread nD τ).loc main_arg12)) (m ((c.tc : Thread nD τ).loc main_arg13)) (m ((c.tc : Thread nD τ).loc main_arg14)) (m ((c.tc : Thread nD τ).loc main_arg15)) := rfl

set_option maxRecDepth 16384 in
theorem refOut_at (H : FVec Ideal S16384x64 .f32) (W2 : FVec Ideal S64x32 .f32) (b2 : FVec Ideal S32 .f32) (W3 : FVec Ideal S32x1 .f32)
    (b3 : FVec Ideal S1 .f32) (r : Fin 16384) :
    refOut H W2 b2 W3 b3 (ix2 r 0) = net (fun j => H (ix2 r j)) W2 (fun x => b2 (ix1 x)) W3 (b3 (ix1 0)) := by
  pointwise [refOut]
  rfl

set_option maxRecDepth 16384 in
theorem refHid_at (a0 a1 a2 a3 a4 a5 a6 a7 : FVec Ideal S16384 .f32) (P : FVec Ideal S16384x16 .f32) (W1 : FVec Ideal S24x64 .f32)
    (b1 : FVec Ideal S64 .f32) (r : Fin 16384) (j : Fin 64) :
    refHid a0 a1 a2 a3 a4 a5 a6 a7 P W1 b1 (ix2 r j)
      = hid (a0 (ix1 r)) (a1 (ix1 r)) (a2 (ix1 r)) (a3 (ix1 r)) (a4 (ix1 r)) (a5 (ix1 r)) (a6 (ix1 r)) (a7 (ix1 r))
          (fun e => P (ix2 r e)) W1 (fun x => b1 (ix1 x)) j := by
  pointwise [refHid]
  rw [Fin.sum_univ_add (a := 8) (b := 16), Fin.sum_univ_eight]
  simp only [hid]
  simp
  generalize hS : (∑ x : Fin 16, P (ix2 r x) * W1 (ix2 (Fin.natAdd 8 x) j)) = S
  have hS' : (∑ x : Fin 16, P (ix2 r x) * W1 (ix2 ⟨8 + x.val, by omega⟩ j)) = S := hS
  rw [hS']
  ac_rfl

/-- A looked-up entry: the table's row whose number the index word holds. -/
theorem gather_at (T : FVec Ideal S1000000x16 .f32) (J : IVec S16384x50x1 32) (r : Fin 16384) (j : Fin 50) (e : Fin 16) (n : Fin 1000000)
    (h : J (ix3 r j 0) = BitVec.ofNat 32 n.val) :
    Host.gather gather_S1000000x16_S16384x50x1_S16384x50x16_2_0_n_n_0_2_116 T J (ix3 r j e) = T (ix2 n e) := by
  unfold Host.gather
  refine congrArg T (funext fun a => Fin.ext ?_)
  match a with
  | ⟨0, _⟩ =>
    have hx : gather_S1000000x16_S16384x50x1_S16384x50x16_2_0_n_n_0_2_116.siIdx (ix3 r j e) ⟨0, by decide⟩ = ix3 r j 0 := by
      funext b
      match b with
      | ⟨0, _⟩ => rfl
      | ⟨1, _⟩ => rfl
      | ⟨2, _⟩ => rfl
    have hm : ∀ w : BitVec 32, w = BitVec.ofNat 32 n.val → min w.toInt.toNat (1000000 - 1) + 0 + 0 = n.val := by
      rintro w rfl
      rw [BitVec.toInt_eq_toNat_of_lt (by rw [BitVec.toNat_ofNat]; omega), BitVec.toNat_ofNat]
      omega
    exact hm _ ((congrArg J hx).trans h)
  | ⟨1, _⟩ =>
    show 0 + 0 + e.val = e.val
    omega

/-- An index in range is taken as it is. -/
theorem wrapIx_at (I : IVec S16384x50 32) (r : Fin 16384) (j : Fin 50) (h : (I (ix2 r j)).toNat < 1000000) :
    wrapIx I (ix2 r j) = I (ix2 r j) := by
  pointwise [wrapIx]
  rw [WordCmp.cmpi_slt_of_lt (by omega) (by decide)]
  rfl

/-- And lies in the table. -/
theorem okIx_at (J : IVec S16384x50 32) (r : Fin 16384) (j : Fin 50) (h : (J (ix2 r j)).toNat < 1000000) :
    okIx J (ix2 r j) = 1#1 := by
  pointwise [okIx]
  rw [WordCmp.cmpi_sge_of_lt (by omega) (by decide), WordCmp.cmpi_sle_of_lt (by omega) (by decide),
    decide_eq_true (by rw [BitVec.toNat_ofNat]; omega), decide_eq_true (by rw [BitVec.toNat_ofNat]; omega), Finset.univ_unique, Finset.fold_singleton]
  rfl

/-- The looked-up rows are not replaced. -/
theorem picked_at (T : FVec Ideal S1000000x16 .f32) (I : IVec S16384x50 32) (r : Fin 16384) (e : Fin 16) (v : EReal)
    (j : Fin 50) (h : (I (ix2 r j)).toNat < 1000000) :
    Scalar.select (okIx (wrapIx I) (ix2 r j))
      (Host.gather gather_S1000000x16_S16384x50x1_S16384x50x16_2_0_n_n_0_2_116 T
        (broadcastInDim S16384x50x1 ![0, 1] bcast_S16384x50_S16384x50x1_0_1 (wrapIx I)) (ix3 r j e)) v = T (ix2 ⟨(I (ix2 r j)).toNat, h⟩ e) := by
  rw [okIx_at _ _ _ (by rw [wrapIx_at _ _ _ h]; exact h)]
  refine gather_at T _ r j e ⟨_, h⟩ ?_
  pointwise []
  rw [wrapIx_at _ _ _ h]
  simp

/-- A pooled row: the mean of the fifty rows its indices name. -/
theorem refPool_at (T : FVec Ideal S1000000x16 .f32) (I : IVec S16384x50 32) (r : Fin 16384) (e : Fin 16)
    (h : ∀ j, (I (ix2 r j)).toNat < 1000000) :
    refPool T I (ix2 r e) = Ideal.div (∑ j : Fin 50, T (ix2 ⟨(I (ix2 r j)).toNat, h j⟩ e)) (Ideal.ofBits .f32 0x42480000#32) := by
  pointwise [refPool]
  generalize Ideal.ofBits FTy.f32 _ = u
  generalize Ideal.ofBits FTy.f32 _ = v
  rw [Finset.sum_congr rfl fun j _ => picked_at T I r e _ j (h j)]

end Cert.Proof.Ker.Refn
-- ==== Proof.Algebraic.lean ====
/-
  The program's result is the reference's.
-/
module

public import proofs.«01_k».proof.Proof.Frame
public import proofs.«01_k».proof.Proof.Rows
public import proofs.«01_k».proof.Proof.Mean
public import proofs.«01_k».proof.Proof.RefRow

@[expose] public section

noncomputable section

namespace Cert.Proof.Ker

open Cert.KernelIdeal Cert.KernelIdeal.Gen
open Idealize.ShloMosaic
open Idealize.ShloMosaic.TcCoe
open Idealize.SL.Sem

variable (m : (ℓ : Loc nD τ sig) → Buf (Elt Ideal) ℓ)

/-! ## The arrays the dense call reads -/

/-- Before the SparseCore call's result is written, the arguments are as they started. -/
theorem V2_kept (d : Dev nD) (b : Ref sig .tc) (hb : b ∉ written) : V2 m d (Proc.devRef .tc b) = m ((d.tc : Thread nD τ).loc b) := by
  simp only [written, List.mem_cons, List.not_mem_nil, _root_.or_false, not_or] at hb
  refine (Function.update_of_ne (devRef_ne hb.2.1) ..).trans ?_
  unfold V1
  exact StableHlo.reshape_result_ne _ _ _ _ _ _ _ hb.1

theorem V3_kept (d : Dev nD) (b : Ref sig .tc) (hb : b ∉ written) : V3' m d b = m ((d.tc : Thread nD τ).loc b) := by
  have h := hb
  simp only [written, List.mem_cons, List.not_mem_nil, _root_.or_false, not_or] at h
  obtain ⟨-, -, h2, h3, h4, -, -⟩ := h
  show V3 m d (Proc.devRef .tc b) = _
  unfold V3
  refine (StableHlo.reshape_result_ne _ _ _ _ _ _ _ h4).trans ?_
  refine (StableHlo.reshape_result_ne _ _ _ _ _ _ _ h3).trans ?_
  exact (StableHlo.reshape_result_ne _ _ _ _ _ _ _ h2).trans (V2_kept m d b hb)

theorem V3_pool (d : Dev nD) : V3' m d main_v1 = poolBuf (tb m d) (ib m d) := by
  show V3 m d (Proc.devRef .tc main_v1) = _
  unfold V3
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  exact Function.update_self ..

theorem V3_b1 (d : Dev nD) (j : Fin 64) : V3' m d main_v2 (ix2 0 j) = m ((d.tc : Thread nD τ).loc main_arg11) (ix1 j) := by
  have h : V3' m d main_v2 = fun i => shapeCast S1x64 (V2 m d (Proc.devRef .tc main_arg11)) shapeCasts_S64_S1x64 i := by
    show V3 m d (Proc.devRef .tc main_v2) = _
    unfold V3
    refine (StableHlo.reshape_result_ne _ _ _ _ _ _ _ (by decide)).trans ?_
    refine (StableHlo.reshape_result_ne _ _ _ _ _ _ _ (by decide)).trans ?_
    exact StableHlo.reshape_result _ _ _ _ _ _ _
  rw [h, V2_kept m d main_arg11 (by decide)]
  pointwise []

theorem V3_b2 (d : Dev nD) (x : Fin 32) : V3' m d main_v3 (ix2 0 x) = m ((d.tc : Thread nD τ).loc main_arg13) (ix1 x) := by
  have h : V3' m d main_v3 = fun i => shapeCast S1x32 ((opB1 (F := Ideal)).result (V2 m d) (Proc.devRef .tc main_arg13)) shapeCasts_S32_S1x32 i := by
    show V3 m d (Proc.devRef .tc main_v3) = _
    unfold V3
    refine (StableHlo.reshape_result_ne _ _ _ _ _ _ _ (by decide)).trans ?_
    exact StableHlo.reshape_result _ _ _ _ _ _ _
  rw [h, StableHlo.reshape_result_ne _ _ _ _ _ _ _ (by decide), V2_kept m d main_arg13 (by decide)]
  pointwise []

theorem V3_b3 (d : Dev nD) : V3' m d main_v4 (ix2 0 0) = m ((d.tc : Thread nD τ).loc main_arg15) (ix1 0) := by
  have h : V3' m d main_v4 = fun i => shapeCast S1x1 ((opB2 (F := Ideal)).result ((opB1 (F := Ideal)).result (V2 m d)) (Proc.devRef .tc main_arg15)) shapeCasts_S1_S1x1 i := by
    show V3 m d (Proc.devRef .tc main_v4) = _
    unfold V3
    exact StableHlo.reshape_result _ _ _ _ _ _ _
  rw [h, StableHlo.reshape_result_ne _ _ _ _ _ _ _ (by decide), StableHlo.reshape_result_ne _ _ _ _ _ _ _ (by decide), V2_kept m d main_arg15 (by decide)]
  pointwise []

/-- The list the SparseCore reads is the indices, reshaped. -/
theorem ib_eq (d : Dev nD) : ib m d = fun i => shapeCast S32x25600 (m ((d.tc : Thread nD τ).loc main_arg8)) shapeCasts_S16384x50_S32x25600 i := by
  show (opIdx (F := Ideal)).result (V0 m d) (Proc.devRef .tc main_v0) = _
  exact StableHlo.reshape_result _ _ _ _ _ _ _

/-- The result's row `r`. -/
theorem V5_row (d : Dev nD) (r : Fin 16384) : V5 m d (Proc.devRef .tc main_v6) (ix2 r 0) = rowOut (V3' m) d r := by
  have h : V5 m d (Proc.devRef .tc main_v6) = fun i => shapeCast S16384x1 (V4' m d main_v5) shapeCasts_S16384_S16384x1 i := by
    unfold V5
    exact StableHlo.reshape_result _ _ _ _ _ _ _
  rw [h, V4_out, outArr_eq]
  pointwise []

/-! ## The two results -/

/-- The program's result and the reference's, from the same arguments with indices in range. -/
theorem result_eq (m' : (ℓ : Loc Cert.ReferenceIdeal.nD Cert.ReferenceIdeal.τ Cert.ReferenceIdeal.sig) → Buf (Elt Ideal) ℓ) (c : Dev nD)
    (hr : ∀ y : S16384x50.Idx, BitVec.toNat (m ((c.tc : Thread nD τ).loc main_arg8) y) < 1000000)
    (h0 : m' ((c.tc : Thread _ Cert.ReferenceIdeal.τ).loc Cert.ReferenceIdeal.main_arg0) = m ((c.tc : Thread nD τ).loc main_arg0))
    (h1 : m' ((c.tc : Thread _ Cert.ReferenceIdeal.τ).loc Cert.ReferenceIdeal.main_arg1) = m ((c.tc : Thread nD τ).loc main_arg1))
    (h2 : m' ((c.tc : Thread _ Cert.ReferenceIdeal.τ).loc Cert.ReferenceIdeal.main_arg2) = m ((c.tc : Thread nD τ).loc main_arg2))
    (h3 : m' ((c.tc : Thread _ Cert.ReferenceIdeal.τ).loc Cert.ReferenceIdeal.main_arg3) = m ((c.tc : Thread nD τ).loc main_arg3))
    (h4 : m' ((c.tc : Thread _ Cert.ReferenceIdeal.τ).loc Cert.ReferenceIdeal.main_arg4) = m ((c.tc : Thread nD τ).loc main_arg4))
    (h5 : m' ((c.tc : Thread _ Cert.ReferenceIdeal.τ).loc Cert.ReferenceIdeal.main_arg5) = m ((c.tc : Thread nD τ).loc main_arg5))
    (h6 : m' ((c.tc : Thread _ Cert.ReferenceIdeal.τ).loc Cert.ReferenceIdeal.main_arg6) = m ((c.tc : Thread nD τ).loc main_arg6))
    (h7 : m' ((c.tc : Thread _ Cert.ReferenceIdeal.τ).loc Cert.ReferenceIdeal.main_arg7) = m ((c.tc : Thread nD τ).loc main_arg7))
    (h8 : m' ((c.tc : Thread _ Cert.ReferenceIdeal.τ).loc Cert.ReferenceIdeal.main_arg8) = m ((c.tc : Thread nD τ).loc main_arg8))
    (h9 : m' ((c.tc : Thread _ Cert.ReferenceIdeal.τ).loc Cert.ReferenceIdeal.main_arg9) = m ((c.tc : Thread nD τ).loc main_arg9))
    (h10 : m' ((c.tc : Thread _ Cert.ReferenceIdeal.τ).loc Cert.ReferenceIdeal.main_arg10) = m ((c.tc : Thread nD τ).loc main_arg10))
    (h11 : m' ((c.tc : Thread _ Cert.ReferenceIdeal.τ).loc Cert.ReferenceIdeal.main_arg11) = m ((c.tc : Thread nD τ).loc main_arg11))
    (h12 : m' ((c.tc : Thread _ Cert.ReferenceIdeal.τ).loc Cert.ReferenceIdeal.main_arg12) = m ((c.tc : Thread nD τ).loc main_arg12))
    (h13 : m' ((c.tc : Thread _ Cert.ReferenceIdeal.τ).loc Cert.ReferenceIdeal.main_arg13) = m ((c.tc : Thread nD τ).loc main_arg13))
    (h14 : m' ((c.tc : Thread _ Cert.ReferenceIdeal.τ).loc Cert.ReferenceIdeal.main_arg14) = m ((c.tc : Thread nD τ).loc main_arg14))
    (h15 : m' ((c.tc : Thread _ Cert.ReferenceIdeal.τ).loc Cert.ReferenceIdeal.main_arg15) = m ((c.tc : Thread nD τ).loc main_arg15)) :
    Cert.ReferenceIdeal.Value.res_main_v36 m' c = V5 m c (Proc.devRef .tc main_v6) := by
  rw [Refn.res_eq, h0, h1, h2, h3, h4, h5, h6, h7, h8, h9, h10, h11, h12, h13, h14, h15]
  funext i
  obtain ⟨r, rfl⟩ : ∃ r : Fin 16384, i = ix2 r 0 := ⟨i 0, (eq_ix2 i).trans (congrArg (ix2 (i 0)) (Subsingleton.elim (α := Fin 1) _ _))⟩
  rw [V5_row, Refn.refOut_at]
  unfold rowOut
  have e : (fun e => V3' m c main_v1 (ix2 r e))
      = fun e => Refn.refPool (m ((c.tc : Thread nD τ).loc main_arg9)) (m ((c.tc : Thread nD τ).loc main_arg8)) (ix2 r e) := funext fun e => by
    rw [V3_pool, poolBuf_at _ _ _ (ib_eq m c) r e fun j => hr _]
    exact (Refn.refPool_at _ _ r e fun j => hr _).symm
  have eb1 : (fun j => V3' m c main_v2 (ix2 0 j)) = fun j => m ((c.tc : Thread nD τ).loc main_arg11) (ix1 j) := funext (V3_b1 m c)
  have eb2 : (fun x => V3' m c main_v3 (ix2 0 x)) = fun x => m ((c.tc : Thread nD τ).loc main_arg13) (ix1 x) := funext (V3_b2 m c)
  rw [e, eb1, eb2, V3_kept m c main_arg0 (by decide), V3_kept m c main_arg1 (by decide), V3_kept m c main_arg2 (by decide), V3_kept m c main_arg3 (by decide),
    V3_kept m c main_arg4 (by decide), V3_kept m c main_arg5 (by decide), V3_kept m c main_arg6 (by decide), V3_kept m c main_arg7 (by decide),
    V3_kept m c main_arg10 (by decide), V3_kept m c main_arg12 (by decide), V3_kept m c main_arg14 (by decide), V3_b3]
  simp only [Refn.refHid_at]

/-- From memories that agree on the arguments, with indices in range, the program and the reference end with equal results. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := fun m ρ m' ρ' hpre hag =>
  ⟨fun c => V5 m c (Proc.devRef .tc main_v6),
    (θ_run Cert.KernelIdeal.defs _ _).mono (fun r h c =>
      ⟨h.1 c _ (mem_ucRefs rfl), kept m r h c main_arg0 rfl (by decide), kept m r h c main_arg1 rfl (by decide), kept m r h c main_arg2 rfl (by decide),
        kept m r h c main_arg3 rfl (by decide), kept m r h c main_arg4 rfl (by decide), kept m r h c main_arg5 rfl (by decide),
        kept m r h c main_arg6 rfl (by decide), kept m r h c main_arg7 rfl (by decide), kept m r h c main_arg8 rfl (by decide),
        kept m r h c main_arg9 rfl (by decide), kept m r h c main_arg10 rfl (by decide), kept m r h c main_arg11 rfl (by decide),
        kept m r h c main_arg12 rfl (by decide), kept m r h c main_arg13 rfl (by decide), kept m r h c main_arg14 rfl (by decide),
        kept m r h c main_arg15 rfl (by decide)⟩)
      (run_main (F := Ideal) m ρ (ib_of_pre m hpre)),
    (θ_run Cert.ReferenceIdeal.defs _ _).mono (fun r h c => by
      obtain ⟨h0, h1, h2, h3, h4, h5, h6, h7, h8, h9, h10, h11, h12, h13, h14, h15⟩ := hag c
      exact ⟨(h c).1.trans (result_eq m m' c (ok_of_pre m hpre c) h0 h1 h2 h3 h4 h5 h6 h7 h8 h9 h10 h11 h12 h13 h14 h15), (h c).2⟩)
      (Cert.ReferenceIdeal.Value.run m' ρ')⟩

end Cert.Proof.Ker
-- ==== Proof.lean ====
/-
  The certificate: the frames of the printed kernel, of its idealization and of the reference, the named constant, and the
  equality of the results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frame
public import proofs.«01_k».proof.Proof.Bits.Frame
public import proofs.«01_k».proof.Proof.Ref
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  Bit.frame_kernel, Ker.frame_kernel, frame_ref, frame_ref_in_range, IdealRules.named_const.statement _ _ _ _ _ rfl, Ker.algebraic⟩

end Cert.Proof

end
